-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log_beta1" .f32 0xBDD7C741#32 ((Real.log (9 / 10) : ℝ) : EReal)
  ∧ IdealRules.named_const.Statement Cert.KernelIdeal.κ "log_beta2" .f32 0xBA832338#32 ((Real.log (999 / 1000) : ℝ) : EReal)
  ∧ IdealRules.named_const.Statement Cert.KernelIdeal.κ "v_unit" .f32 0x3A83126F#32 ((1 / 1000 : ℝ) : EReal)
  ∧ IdealRules.named_const.Statement Cert.KernelIdeal.κ "eps" .f32 0x322BCC77#32 ((1 / 100000000 : ℝ) : EReal)
  ∧ IdealRules.named_const.Statement Cert.KernelIdeal.κ "v_ratio" .f32 0x41FCDB0F#32 ((Real.sqrt 999 : ℝ) : EReal)
  ∧ IdealRules.named_const.Statement Cert.KernelIdeal.κ "lr_wd" .f32 0x3727C5AC#32 ((1 / 100000 : ℝ) : EReal)
  ∧ IdealRules.named_const.Statement Cert.KernelIdeal.κ "m_back" .f32 0x3A4E69A0#32 ((1 / 1270 : ℝ) : EReal)
  ∧ IdealRules.named_const.Statement Cert.KernelIdeal.κ "v_back" .f32 0x39828BFA#32 (((127 * (Real.sqrt 1000))⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v69_0) = v1 c
          ∧ r.2.mem ((c.tc : Thread Cert.ReferenceIdeal.nD Cert.ReferenceIdeal.τ).loc Cert.ReferenceIdeal.main_v69_1) = v2 c
          ∧ r.2.mem ((c.tc : Thread Cert.ReferenceIdeal.nD Cert.ReferenceIdeal.τ).loc Cert.ReferenceIdeal.main_v87_0) = v3 c
          ∧ r.2.mem ((c.tc : Thread Cert.ReferenceIdeal.nD Cert.ReferenceIdeal.τ).loc Cert.ReferenceIdeal.main_v87_1) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S39424x2048 : Shape := ⟨2, ![39424, 2048]⟩
abbrev S39424x16 : Shape := ⟨2, ![39424, 16]⟩
abbrev S_ : Shape := ⟨0, ![]⟩
abbrev S39424x16x128 : Shape := ⟨3, ![39424, 16, 128]⟩
abbrev S39424x16x1 : Shape := ⟨3, ![39424, 16, 1]⟩

class Facts : Prop where
  bitsLt_bf16_f32 : FTy.bits .bf16 < FTy.bits .f32
  natLt_8_32 : 8 < 32
  shapeCasts_S39424x2048_S39424x16x128 : S39424x2048.ShapeCasts S39424x16x128
  bcast_S39424x16_S39424x16x1_0_1 : S39424x16.BroadcastsInDim S39424x16x1 (![0, 1] : Fin 2 → Fin S39424x16x1.rank)
  bcast_S39424x16x1_S39424x16x128_0_1_2 : S39424x16x1.BroadcastsInDim S39424x16x128 (![0, 1, 2] : Fin 3 → Fin S39424x16x128.rank)
  shapeCasts_S39424x16x128_S39424x2048 : S39424x16x128.ShapeCasts S39424x2048
  bcast_S_S39424x2048 : S_.BroadcastsInDim S39424x2048 (![] : Fin 0 → Fin S39424x2048.rank)
  reducesTo_S39424x16x128_S39424x16_d2 : S39424x16x128.ReducesTo [2] S39424x16
  h_S_ : 0 < S_.numel
  bcast_S_S39424x16 : S_.BroadcastsInDim S39424x16 (![] : Fin 0 → Fin S39424x16.rank)

variable [Facts]

def fn_part2 {F : FTy → Type} [FloatOps F] (main_v0 : FVec F S39424x2048 .f32) (main_v22 : FVec F S39424x2048 .f32) (main_v38 : IVec S39424x16 1) (main_v39 : IVec S_ 1) : IVec S39424x16x128 1 :=
  let main_v40 : IVec S39424x16 1 := broadcastInDim S39424x16 ![] bcast_S_S39424x16 main_v39
  let main_v41 : IVec S39424x16 1 := andi main_v38 main_v40
  let main_v42 : FVec F S39424x2048 .f32 := Host.absf main_v0
  let main_cst_6 : FVec F S_ .f32 := constant S_ .f32 0x7F800000#32
  let main_v43 : FVec F S39424x2048 .f32 := broadcastInDim S39424x2048 ![] bcast_S_S39424x2048 main_cst_6
  let main_v44 : IVec S39424x2048 1 := cmpf .olt main_v42 main_v43
  let main_cst_7 : FVec F S_ .f32 := constant S_ .f32 0x00000000#32
  let main_v45 : FVec F S39424x2048 .f32 := broadcastInDim S39424x2048 ![] bcast_S_S39424x2048 main_cst_7
  let main_v46 : IVec S39424x2048 1 := cmpf .oeq main_v22 main_v45
  let main_cst_8 : FVec F S_ .f32 := constant S_ .f32 0x03AA2425#32
  let main_v47 : FVec F S39424x2048 .f32 := broadcastInDim S39424x2048 ![] bcast_S_S39424x2048 main_cst_8
  let main_v48 : IVec S39424x2048 1 := cmpf .ogt main_v22 main_v47
  let main_v49 : IVec S39424x2048 1 := ori main_v46 main_v48
  let main_v50 : IVec S39424x2048 1 := andi main_v44 main_v49
  let main_v51 : IVec S39424x16x128 1 := shapeCast S39424x16x128 main_v50 shapeCasts_S39424x2048_S39424x16x128
  let main_v52 : IVec S39424x16x1 1 := broadcastInDim S39424x16x1 ![0, 1] bcast_S39424x16_S39424x16x1_0_1 main_v41
  let main_v53 : IVec S39424x16x128 1 := broadcastInDim S39424x16x128 ![0, 1, 2] bcast_S39424x16x1_S39424x16x128_0_1_2 main_v52
  let main_v54 : IVec S39424x16x128 1 := andi main_v51 main_v53
  main_v54

def fn_part1 {F : FTy → Type} [FloatOps F] (main_arg3 : FVec F S39424x16 .f32) (main_arg5 : FVec F S39424x16 .f32) (main_arg6 : IVec S_ 32) (main_v0 : FVec F S39424x2048 .f32) (main_v10 : FVec F S39424x2048 .f32) (main_v20 : FVec F S39424x2048 .f32) (main_v21 : FVec F S39424x2048 .f32) : IVec S39424x16x128 1 :=
  let main_v22 : FVec F S39424x2048 .f32 := addf main_v20 main_v21
  let main_v23 : FVec F S39424x2048 .f32 := Host.absf main_v10
  let main_v24 : FVec F S39424x16x128 .f32 := shapeCast S39424x16x128 main_v23 shapeCasts_S39424x2048_S39424x16x128
  let main_cst_1 : FVec F S_ .f32 := constant S_ .f32 0xFF800000#32
  let main_v25 : FVec F S39424x16 .f32 := (fun x v => Host.reduce FloatOps.maximumf x v reducesTo_S39424x16x128_S39424x16_d2 h_S_) main_v24 main_cst_1
  let main_v26 : FVec F S39424x16 .f32 := Host.absf main_arg3
  let main_cst_2 : FVec F S_ .f32 := constant S_ .f32 0x7F800000#32
  let main_v27 : FVec F S39424x16 .f32 := broadcastInDim S39424x16 ![] bcast_S_S39424x16 main_cst_2
  let main_v28 : IVec S39424x16 1 := cmpf .olt main_v26 main_v27
  let main_v29 : FVec F S39424x16 .f32 := Host.absf main_arg5
  let main_cst_3 : FVec F S_ .f32 := constant S_ .f32 0x7F800000#32
  let main_v30 : FVec F S39424x16 .f32 := broadcastInDim S39424x16 ![] bcast_S_S39424x16 main_cst_3
  let main_v31 : IVec S39424x16 1 := cmpf .olt main_v29 main_v30
  let main_v32 : IVec S39424x16 1 := andi main_v28 main_v31
  let main_cst_4 : FVec F S_ .f32 := constant S_ .f32 0x00000000#32
  let main_v33 : FVec F S39424x16 .f32 := broadcastInDim S39424x16 ![] bcast_S_S39424x16 main_cst_4
  let main_v34 : IVec S39424x16 1 := cmpf .oeq main_v25 main_v33
  let main_cst_5 : FVec F S_ .f32 := constant S_ .f32 0x03AA2425#32
  let main_v35 : FVec F S39424x16 .f32 := broadcastInDim S39424x16 ![] bcast_S_S39424x16 main_cst_5
  let main_v36 : IVec S39424x16 1 := cmpf .oge main_v25 main_v35
  let main_v37 : IVec S39424x16 1 := ori main_v34 main_v36
  let main_v38 : IVec S39424x16 1 := andi main_v32 main_v37
  let main_c : IVec S_ 32 := constantI S_ 32 0#32
  let main_v39 : IVec S_ 1 := cmpi .ne main_arg6 main_c
  fn_part2 (F := F) main_v0 main_v22 main_v38 main_v39

def fn {F : FTy → Type} [FloatOps F] (main_arg0 : FVec F S39424x2048 .f32) (main_arg1 : FVec F S39424x2048 .bf16) (main_arg2 : IVec S39424x2048 8) (main_arg3 : FVec F S39424x16 .f32) (main_arg4 : IVec S39424x2048 8) (main_arg5 : FVec F S39424x16 .f32) (main_arg6 : IVec S_ 32) : IVec S39424x16x128 1 :=
  let main_v0 : FVec F S39424x2048 .f32 := (extf .f32 · bitsLt_bf16_f32) main_arg1
  let main_v1 : IVec S39424x2048 32 := (extsi 32 · natLt_8_32) main_arg2
  let main_v2 : FVec F S39424x2048 .f32 := sitofp .f32 main_v1
  let main_v3 : FVec F S39424x16x128 .f32 := shapeCast S39424x16x128 main_v2 shapeCasts_S39424x2048_S39424x16x128
  let main_v4 : FVec F S39424x16x1 .f32 := broadcastInDim S39424x16x1 ![0, 1] bcast_S39424x16_S39424x16x1_0_1 main_arg3
  let main_v5 : FVec F S39424x16x128 .f32 := broadcastInDim S39424x16x128 ![0, 1, 2] bcast_S39424x16x1_S39424x16x128_0_1_2 main_v4
  let main_v6 : FVec F S39424x16x128 .f32 := mulf main_v3 main_v5
  let main_v7 : FVec F S39424x2048 .f32 := shapeCast S39424x2048 main_v6 shapeCasts_S39424x16x128_S39424x2048
  let main_cst : FVec F S_ .f32 := constant S_ .f32 0x41100000#32
  let main_v8 : FVec F S39424x2048 .f32 := broadcastInDim S39424x2048 ![] bcast_S_S39424x2048 main_cst
  let main_v9 : FVec F S39424x2048 .f32 := mulf main_v8 main_v7
  let main_v10 : FVec F S39424x2048 .f32 := addf main_v9 main_v0
  let main_v11 : IVec S39424x2048 32 := (extsi 32 · natLt_8_32) main_arg4
  let main_v12 : FVec F S39424x2048 .f32 := sitofp .f32 main_v11
  let main_v13 : FVec F S39424x16x128 .f32 := shapeCast S39424x16x128 main_v12 shapeCasts_S39424x2048_S39424x16x128
  let main_v14 : FVec F S39424x16x1 .f32 := broadcastInDim S39424x16x1 ![0, 1] bcast_S39424x16_S39424x16x1_0_1 main_arg5
  let main_v15 : FVec F S39424x16x128 .f32 := broadcastInDim S39424x16x128 ![0, 1, 2] bcast_S39424x16x1_S39424x16x128_0_1_2 main_v14
  let main_v16 : FVec F S39424x16x128 .f32 := mulf main_v13 main_v15
  let main_v17 : FVec F S39424x2048 .f32 := shapeCast S39424x2048 main_v16 shapeCasts_S39424x16x128_S39424x2048
  let main_v18 : FVec F S39424x2048 .f32 := mulf main_v17 main_v17
  let main_cst_0 : FVec F S_ .f32 := constant S_ .f32 0x4479C000#32
  let main_v19 : FVec F S39424x2048 .f32 := broadcastInDim S39424x2048 ![] bcast_S_S39424x2048 main_cst_0
  let main_v20 : FVec F S39424x2048 .f32 := mulf main_v19 main_v18
  let main_v21 : FVec F S39424x2048 .f32 := mulf main_v0 main_v0
  fn_part1 (F := F) main_arg3 main_arg5 main_arg6 main_v0 main_v10 main_v20 main_v21
-- ==== Kernel.lean ====
abbrev S39424x2048 : Shape := ⟨2, ![39424, 2048]⟩
abbrev S39424x16 : Shape := ⟨2, ![39424, 16]⟩
abbrev S_ : Shape := ⟨0, ![]⟩
abbrev S1 : Shape := ⟨1, ![1]⟩
abbrev S16x39424 : Shape := ⟨2, ![16, 39424]⟩
abbrev S256x2048 : Shape := ⟨2, ![256, 2048]⟩
abbrev S16x256 : Shape := ⟨2, ![16, 256]⟩
abbrev S256x128 : Shape := ⟨2, ![256, 128]⟩
abbrev S8x128 : Shape := ⟨2, ![8, 128]⟩
abbrev S1x8x128 : Shape := ⟨3, ![1, 8, 128]⟩
abbrev S256x16 : Shape := ⟨2, ![256, 16]⟩
abbrev S32x128 : Shape := ⟨2, ![32, 128]⟩
abbrev S32x1 : Shape := ⟨2, ![32, 1]⟩
abbrev S4x8x128 : Shape := ⟨3, ![4, 8, 128]⟩
abbrev S32 : Shape := ⟨1, ![32]⟩
abbrev S128x256 : Shape := ⟨2, ![128, 256]⟩

abbrev nBuf : Space → Nat
  | .hbm => 17
  | .vmem => 26
  | .smem => 1
  | _ => 0

abbrev bufTy : (tb : Table) → Fin (tcTables nBuf tb) → BufTy
  | .hbm, ⟨0, _⟩ => ⟨S39424x2048, .f32⟩
  | .hbm, ⟨1, _⟩ => ⟨S39424x2048, .bf16⟩
  | .hbm, ⟨2, _⟩ => ⟨S39424x2048, .i8⟩
  | .hbm, ⟨3, _⟩ => ⟨S39424x16, .f32⟩
  | .hbm, ⟨4, _⟩ => ⟨S39424x2048, .i8⟩
  | .hbm, ⟨5, _⟩ => ⟨S39424x16, .f32⟩
  | .hbm, ⟨6, _⟩ => ⟨S_, .i32⟩
  | .hbm, ⟨7, _⟩ => ⟨S1, .i32⟩
  | .hbm, ⟨8, _⟩ => ⟨S16x39424, .f32⟩
  | .hbm, ⟨9, _⟩ => ⟨S16x39424, .f32⟩
  | .hbm, ⟨10, _⟩ => ⟨S39424x2048, .f32⟩
  | .hbm, ⟨11, _⟩ => ⟨S39424x2048, .i8⟩
  | .hbm, ⟨12, _⟩ => ⟨S16x39424, .f32⟩
  | .hbm, ⟨13, _⟩ => ⟨S39424x2048, .i8⟩
  | .hbm, ⟨14, _⟩ => ⟨S16x39424, .f32⟩
  | .hbm, ⟨15, _⟩ => ⟨S39424x16, .f32⟩
  | .hbm, ⟨16, _⟩ => ⟨S39424x16, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .i8⟩
  | .local _ .vmem, ⟨5, _⟩ => ⟨S256x2048, .i8⟩
  | .local _ .vmem, ⟨6, _⟩ => ⟨S16x256, .f32⟩
  | .local _ .vmem, ⟨7, _⟩ => ⟨S16x256, .f32⟩
  | .local _ .vmem, ⟨8, _⟩ => ⟨S256x2048, .i8⟩
  | .local _ .vmem, ⟨9, _⟩ => ⟨S256x2048, .i8⟩
  | .local _ .vmem, ⟨10, _⟩ => ⟨S16x256, .f32⟩
  | .local _ .vmem, ⟨11, _⟩ => ⟨S16x256, .f32⟩
  | .local _ .vmem, ⟨12, _⟩ => ⟨S256x2048, .f32⟩
  | .local _ .vmem, ⟨13, _⟩ => ⟨S256x2048, .f32⟩
  | .local _ .vmem, ⟨14, _⟩ => ⟨S256x2048, .i8⟩
  | .local _ .vmem, ⟨15, _⟩ => ⟨S256x2048, .i8⟩
  | .local _ .vmem, ⟨16, _⟩ => ⟨S16x256, .f32⟩
  | .local _ .vmem, ⟨17, _⟩ => ⟨S16x256, .f32⟩
  | .local _ .vmem, ⟨18, _⟩ => ⟨S256x2048, .i8⟩
  | .local _ .vmem, ⟨19, _⟩ => ⟨S256x2048, .i8⟩
  | .local _ .vmem, ⟨20, _⟩ => ⟨S16x256, .f32⟩
  | .local _ .vmem, ⟨21, _⟩ => ⟨S16x256, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .smem, ⟨0, _⟩ => ⟨S1, .i32⟩
  | _, _ => ⟨S39424x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v4 : Ref sig .tc := ⟨.hbm, 15, rfl⟩
abbrev main_v5 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![154], ![false]⟩

@[reducible] def k0_t1_loop : Scf.Loop 32 :=
  let c0_i32 : BitVec 32 := 0#32
  let c8_i32 : BitVec 32 := 8#32
  let v39 : BitVec 32 := Scalar.addi c0_i32 c8_i32
  let c1_i32 : BitVec 32 := 1#32
  ⟨c0_i32, v39, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  v61
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v63 : Index := Scalar.indexCast v62
  let c0_31 : Index := 0#32
  ![v63.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v70 : Index := Scalar.indexCast v62
  let c0_33 : Index := 0#32
  ![v70.toNat, 0]
def k0_off3 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v144 : Index := Scalar.indexCast v62
  let c128 : Index := 128#32
  ![v144.toNat, 128]
def k0_off4 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v151 : Index := Scalar.indexCast v62
  let c1 : Index := 1#32
  ![v151.toNat, 1]
def k0_off5 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v225 : Index := Scalar.indexCast v62
  let c256 : Index := 256#32
  ![v225.toNat, 256]
def k0_off6 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v232 : Index := Scalar.indexCast v62
  let c2 : Index := 2#32
  ![v232.toNat, 2]
def k0_off7 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v306 : Index := Scalar.indexCast v62
  let c384 : Index := 384#32
  ![v306.toNat, 384]
def k0_off8 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v313 : Index := Scalar.indexCast v62
  let c3 : Index := 3#32
  ![v313.toNat, 3]
def k0_off9 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v387 : Index := Scalar.indexCast v62
  let c512 : Index := 512#32
  ![v387.toNat, 512]
def k0_off10 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v394 : Index := Scalar.indexCast v62
  let c4 : Index := 4#32
  ![v394.toNat, 4]
def k0_off11 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v468 : Index := Scalar.indexCast v62
  let c640 : Index := 640#32
  ![v468.toNat, 640]
def k0_off12 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v475 : Index := Scalar.indexCast v62
  let c5 : Index := 5#32
  ![v475.toNat, 5]
def k0_off13 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v549 : Index := Scalar.indexCast v62
  let c768 : Index := 768#32
  ![v549.toNat, 768]
def k0_off14 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v556 : Index := Scalar.indexCast v62
  let c6 : Index := 6#32
  ![v556.toNat, 6]
def k0_off15 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v630 : Index := Scalar.indexCast v62
  let c896 : Index := 896#32
  ![v630.toNat, 896]
def k0_off16 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v637 : Index := Scalar.indexCast v62
  let c7 : Index := 7#32
  ![v637.toNat, 7]
def k0_off17 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v711 : Index := Scalar.indexCast v62
  let c1024 : Index := 1024#32
  ![v711.toNat, 1024]
def k0_off18 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v718 : Index := Scalar.indexCast v62
  let c8 : Index := 8#32
  ![v718.toNat, 8]
def k0_off19 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v792 : Index := Scalar.indexCast v62
  let c1152 : Index := 1152#32
  ![v792.toNat, 1152]
def k0_off20 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v799 : Index := Scalar.indexCast v62
  let c9 : Index := 9#32
  ![v799.toNat, 9]
def k0_off21 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v873 : Index := Scalar.indexCast v62
  let c1280 : Index := 1280#32
  ![v873.toNat, 1280]
def k0_off22 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v880 : Index := Scalar.indexCast v62
  let c10 : Index := 10#32
  ![v880.toNat, 10]
def k0_off23 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v954 : Index := Scalar.indexCast v62
  let c1408 : Index := 1408#32
  ![v954.toNat, 1408]
def k0_off24 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v961 : Index := Scalar.indexCast v62
  let c11 : Index := 11#32
  ![v961.toNat, 11]
def k0_off25 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v1035 : Index := Scalar.indexCast v62
  let c1536 : Index := 1536#32
  ![v1035.toNat, 1536]
def k0_off26 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v1042 : Index := Scalar.indexCast v62
  let c12 : Index := 12#32
  ![v1042.toNat, 12]
def k0_off27 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v1116 : Index := Scalar.indexCast v62
  let c1664 : Index := 1664#32
  ![v1116.toNat, 1664]
def k0_off28 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v1123 : Index := Scalar.indexCast v62
  let c13 : Index := 13#32
  ![v1123.toNat, 13]
def k0_off29 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v1197 : Index := Scalar.indexCast v62
  let c1792 : Index := 1792#32
  ![v1197.toNat, 1792]
def k0_off30 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v1204 : Index := Scalar.indexCast v62
  let c14 : Index := 14#32
  ![v1204.toNat, 14]
def k0_off31 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v1278 : Index := Scalar.indexCast v62
  let c1920 : Index := 1920#32
  ![v1278.toNat, 1920]
def k0_off32 (k0_t1 : Fin k0_t1_loop.trips) : Fin 2 → Nat :=
  let c0_i32 : BitVec 32 := 0#32
  let c1_i32 : BitVec 32 := 1#32
  let arg17 : BitVec 32 := Scf.iv c0_i32 c1_i32 k0_t1
  let c32_i32 : BitVec 32 := 32#32
  let v61 : BitVec 32 := Scalar.muli arg17 c32_i32
  let v62 : BitVec 32 := v61
  let v1285 : Index := Scalar.indexCast v62
  let c15 : Index := 15#32
  ![v1285.toNat, 15]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "eps" => some ((1 / 100000000 : ℝ) : EReal)
  | "log_beta1" => some ((Real.log (9 / 10) : ℝ) : EReal)
  | "log_beta2" => some ((Real.log (999 / 1000) : ℝ) : EReal)
  | "lr_wd" => some ((1 / 100000 : ℝ) : EReal)
  | "m_back" => some ((1 / 1270 : ℝ) : EReal)
  | "v_back" => some (((127 * (Real.sqrt 1000))⁻¹ : ℝ) : EReal)
  | "v_ratio" => some ((Real.sqrt 999 : ℝ) : EReal)
  | "v_unit" => some ((1 / 1000 : ℝ) : EReal)
  | _ => none
-- ==== ReferenceIdeal.lean ====
abbrev S39424x2048 : Shape := ⟨2, ![39424, 2048]⟩
abbrev S39424x16 : Shape := ⟨2, ![39424, 16]⟩
abbrev S_ : Shape := ⟨0, ![]⟩
abbrev S39424x16x128 : Shape := ⟨3, ![39424, 16, 128]⟩
abbrev S39424x16x1 : Shape := ⟨3, ![39424, 16, 1]⟩

abbrev nBuf : Space → Nat
  | .hbm => 137
  | .vmem => 0
  | .smem => 0
  | _ => 0

abbrev hbmTy0_0 (i : Nat) : BufTy := match i % 128 with
  | 0 => ⟨S39424x2048, .f32⟩
  | 1 => ⟨S39424x2048, .bf16⟩
  | 2 => ⟨S39424x2048, .i8⟩
  | 3 => ⟨S39424x16, .f32⟩
  | 4 => ⟨S39424x2048, .i8⟩
  | 5 => ⟨S39424x16, .f32⟩
  | 6 => ⟨S_, .i32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S39424x2048, .i32⟩
  | 29 => ⟨S39424x2048, .f32⟩
  | 30 => ⟨S39424x16x128, .f32⟩
  | 31 => ⟨S39424x16x1, .f32⟩
  | 32 => ⟨S39424x16x128, .f32⟩
  | 33 => ⟨S39424x16x128, .f32⟩
  | 34 => ⟨S39424x2048, .f32⟩
  | 35 => ⟨S39424x2048, .i32⟩
  | 36 => ⟨S39424x2048, .f32⟩
  | 37 => ⟨S39424x16x128, .f32⟩
  | 38 => ⟨S39424x16x1, .f32⟩
  | 39 => ⟨S39424x16x128, .f32⟩
  | 40 => ⟨S39424x16x128, .f32⟩
  | 41 => ⟨S39424x2048, .f32⟩
  | 42 => ⟨S39424x2048, .f32⟩
  | 43 => ⟨S39424x2048, .f32⟩
  | 44 => ⟨S39424x2048, .f32⟩
  | 45 => ⟨S39424x2048, .f32⟩
  | 46 => ⟨S39424x2048, .f32⟩
  | 47 => ⟨S39424x2048, .f32⟩
  | 48 => ⟨S39424x2048, .f32⟩
  | 49 => ⟨S39424x2048, .f32⟩
  | 50 => ⟨S39424x2048, .f32⟩
  | 51 => ⟨S39424x2048, .f32⟩
  | 52 => ⟨S39424x2048, .f32⟩
  | 53 => ⟨S39424x2048, .f32⟩
  | 54 => ⟨S39424x2048, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S39424x2048, .f32⟩
  | 63 => ⟨S39424x2048, .f32⟩
  | 64 => ⟨S39424x2048, .f32⟩
  | 65 => ⟨S39424x2048, .f32⟩
  | 66 => ⟨S_, .f32⟩
  | 67 => ⟨S39424x2048, .f32⟩
  | 68 => ⟨S39424x2048, .f32⟩
  | 69 => ⟨S39424x2048, .f32⟩
  | 70 => ⟨S39424x2048, .f32⟩
  | 71 => ⟨S39424x2048, .f32⟩
  | 72 => ⟨S39424x2048, .f32⟩
  | 73 => ⟨S39424x2048, .f32⟩
  | 74 => ⟨S39424x2048, .f32⟩
  | 75 => ⟨S39424x2048, .f32⟩
  | 76 => ⟨S39424x16x128, .f32⟩
  | 77 => ⟨S39424x16x128, .f32⟩
  | 78 => ⟨S_, .f32⟩
  | 79 => ⟨S39424x16, .f32⟩
  | 80 => ⟨S_, .f32⟩
  | 81 => ⟨S39424x16, .f32⟩
  | 82 => ⟨S39424x16, .i1⟩
  | 83 => ⟨S_, .f32⟩
  | 84 => ⟨S39424x16, .f32⟩
  | 85 => ⟨S39424x16, .f32⟩
  | 86 => ⟨S_, .f32⟩
  | 87 => ⟨S39424x16, .f32⟩
  | 88 => ⟨S39424x16, .f32⟩
  | 89 => ⟨S39424x16x1, .f32⟩
  | 90 => ⟨S39424x16x128, .f32⟩
  | 91 => ⟨S39424x16x128, .f32⟩
  | 92 => ⟨S39424x16x128, .f32⟩
  | 93 => ⟨S_, .f32⟩
  | 94 => ⟨S_, .f32⟩
  | 95 => ⟨S_, .f32⟩
  | 96 => ⟨S39424x16x128, .f32⟩
  | 97 => ⟨S39424x16x128, .f32⟩
  | 98 => ⟨S_, .f32⟩
  | 99 => ⟨S39424x16x128, .f32⟩
  | 100 => ⟨S39424x16x128, .f32⟩
  | 101 => ⟨S39424x16x128, .i32⟩
  | 102 => ⟨S39424x16x128, .i8⟩
  | 103 => ⟨S39424x2048, .i8⟩
  | 104 => ⟨S39424x2048, .i8⟩
  | 105 => ⟨S39424x16, .f32⟩
  | 106 => ⟨S39424x2048, .f32⟩
  | 107 => ⟨S39424x16x128, .f32⟩
  | 108 => ⟨S39424x16x128, .f32⟩
  | 109 => ⟨S_, .f32⟩
  | 110 => ⟨S39424x16, .f32⟩
  | 111 => ⟨S_, .f32⟩
  | 112 => ⟨S39424x16, .f32⟩
  | 113 => ⟨S39424x16, .i1⟩
  | 114 => ⟨S_, .f32⟩
  | 115 => ⟨S39424x16, .f32⟩
  | 116 => ⟨S39424x16, .f32⟩
  | 117 => ⟨S_, .f32⟩
  | 118 => ⟨S39424x16, .f32⟩
  | 119 => ⟨S39424x16, .f32⟩
  | 120 => ⟨S39424x16x1, .f32⟩
  | 121 => ⟨S39424x16x128, .f32⟩
  | 122 => ⟨S39424x16x128, .f32⟩
  | 123 => ⟨S39424x16x128, .f32⟩
  | 124 => ⟨S_, .f32⟩
  | 125 => ⟨S_, .f32⟩
  | 126 => ⟨S_, .f32⟩
  | 127 => ⟨S39424x16x128, .f32⟩
  | _ => ⟨S39424x2048, .f32⟩

abbrev hbmTy0_1 (i : Nat) : BufTy := match i % 128 with
  | 0 => ⟨S39424x16x128, .f32⟩
  | 1 => ⟨S_, .f32⟩
  | 2 => ⟨S39424x16x128, .f32⟩
  | 3 => ⟨S39424x16x128, .f32⟩
  | 4 => ⟨S39424x16x128, .i32⟩
  | 5 => ⟨S39424x16x128, .i8⟩
  | 6 => ⟨S39424x2048, .i8⟩
  | 7 => ⟨S39424x2048, .i8⟩
  | 8 => ⟨S39424x16, .f32⟩
  | _ => ⟨S39424x2048, .f32⟩

abbrev hbmTy (i : Nat) : BufTy := match i / 128 with
  | 0 => hbmTy0_0 i
  | 1 => hbmTy0_1 i
  | _ => ⟨S39424x2048, .f32⟩

abbrev bufTy : (tb : Table) → Fin (tcTables nBuf tb) → BufTy
  | .hbm, ⟨i, _⟩ => hbmTy i
  | _, _ => ⟨S39424x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_cst_2 : Ref sig .tc := ⟨.hbm, 11, rfl⟩
abbrev main_v1 : Ref sig .tc := ⟨.hbm, 12, rfl⟩
abbrev main_cst_3 : Ref sig .tc := ⟨.hbm, 13, rfl⟩
abbrev main_cst_4 : Ref sig .tc := ⟨.hbm, 14, rfl⟩
abbrev main_v2 : Ref sig .tc := ⟨.hbm, 15, rfl⟩
abbrev main_cst_5 : Ref sig .tc := ⟨.hbm, 16, rfl⟩
abbrev main_cst_6 : Ref sig .tc := ⟨.hbm, 17, rfl⟩
abbrev main_v3 : Ref sig .tc := ⟨.hbm, 18, rfl⟩
abbrev main_cst_7 : Ref sig .tc := ⟨.hbm, 19, rfl⟩
abbrev main_cst_8 : Ref sig .tc := ⟨.hbm, 20, rfl⟩
abbrev main_v4 : Ref sig .tc := ⟨.hbm, 21, rfl⟩
abbrev main_cst_9 : Ref sig .tc := ⟨.hbm, 22, rfl⟩
abbrev main_cst_10 : Ref sig .tc := ⟨.hbm, 23, rfl⟩
abbrev main_v5 : Ref sig .tc := ⟨.hbm, 24, rfl⟩
abbrev main_cst_11 : Ref sig .tc := ⟨.hbm, 25, rfl⟩
abbrev main_cst_12 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_13 : Ref sig .tc := ⟨.hbm, 57, rfl⟩
abbrev main_v36 : Ref sig .tc := ⟨.hbm, 58, rfl⟩
abbrev main_v37 : Ref sig .tc := ⟨.hbm, 59, rfl⟩
abbrev main_cst_14 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_cst_16 : Ref sig .tc := ⟨.hbm, 80, rfl⟩
abbrev main_v56 : Ref sig .tc := ⟨.hbm, 81, rfl⟩
abbrev main_v57 : Ref sig .tc := ⟨.hbm, 82, rfl⟩
abbrev main_cst_17 : Ref sig .tc := ⟨.hbm, 83, rfl⟩
abbrev main_v58 : Ref sig .tc := ⟨.hbm, 84, rfl⟩
abbrev main_v59 : Ref sig .tc := ⟨.hbm, 85, rfl⟩
abbrev main_cst_18 : Ref sig .tc := ⟨.hbm, 86, rfl⟩
abbrev main_call0_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_19 : Ref sig .tc := ⟨.hbm, 93, rfl⟩
abbrev main_cst_20 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69_0 : Ref sig .tc := ⟨.hbm, 104, rfl⟩
abbrev main_v69_1 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_21 : Ref sig .tc := ⟨.hbm, 109, rfl⟩
abbrev main_v73 : Ref sig .tc := ⟨.hbm, 110, rfl⟩
abbrev main_cst_22 : Ref sig .tc := ⟨.hbm, 111, rfl⟩
abbrev main_v74 : Ref sig .tc := ⟨.hbm, 112, rfl⟩
abbrev main_v75 : Ref sig .tc := ⟨.hbm, 113, rfl⟩
abbrev main_cst_23 : Ref sig .tc := ⟨.hbm, 114, rfl⟩
abbrev main_v76 : Ref sig .tc := ⟨.hbm, 115, rfl⟩
abbrev main_v77 : Ref sig .tc := ⟨.hbm, 116, rfl⟩
abbrev main_cst_24 : Ref sig .tc := ⟨.hbm, 117, rfl⟩
abbrev main_call3_v0 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_25 : Ref sig .tc := ⟨.hbm, 124, rfl⟩
abbrev main_cst_26 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87_0 : Ref sig .tc := ⟨.hbm, 135, rfl⟩
abbrev main_v87_1 : Ref sig .tc := ⟨.hbm, 136, rfl⟩

abbrev nD : Nat := 1
abbrev τ : Topo := Topo.v7x

variable {F : FTy → Type} [FloatOps F]
-- ==== Proof.KernelFrame.lean ====
/-
  The kernel body of `Kernel`, run once at symbolic operands, and the frame that follows from it: the launch ends, every
  argument array is as it was, every semaphore counter is at zero. Nothing is said here of what the kernel leaves in its
  five results: their windows are forgotten.
-/
module

public import proofs.«01_k».proof.Proof.Gen.Kernel.Frame
public import proofs.«01_k».proof.Proof.Gen.Kernel.Loops
public import proofs.«01_k».proof.Proof.Gen.Kernel.Skeleton
public import Idealize.ShloMosaic.Lib.Pipeline.FrameSuffix
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 4000000 in
/-- From the seven inputs held at their contents, the five outputs and the four scratches at anything, the kernel runs to
    its return and hands back the inputs as they were and the rest at some contents. -/
theorem kernelRun (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (d1 : Vec F S1 .i32) (d2 : Vec F S256x2048 .f32) (d3 : Vec F S256x2048 .bf16) (d4 : Vec F S256x2048 .i8) (d5 : Vec F S16x256 .f32) (d6 : Vec F S256x2048 .i8) (d7 : Vec F S16x256 .f32) (K : PUnit → sProp 𝕄) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ
          (cc0_adamw8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_adamw8_eq_skeleton]; unfold cc0_adamw8_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec_parts
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-! ## The proof data and the body obligation -/

/-- The five outputs are forgotten: nothing here reads what the kernel leaves in them. -/
def forgets0 : Fin 12 → Bool := fun w => decide (7 ≤ w.val)

/-- The proof data on core `c`: every window's array as the region finds it; an input's block left in place; the scratches
    and the generator register at anything between points; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => Pipeline.Dat.unnamed (cfg := cfg0) 7 t
    | 8 => Pipeline.Dat.unnamed (cfg := cfg0) 8 t
    | 9 => Pipeline.Dat.unnamed (cfg := cfg0) 9 t
    | 10 => Pipeline.Dat.unnamed (cfg := cfg0) 10 t
    | 11 => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d

/-- What the body is called with at point `t`, and what it returns: each input's staging memref at its block, each output's at
    anything. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

/-- The invariant between points: the four scratches owned at some contents, the generator register at some state. -/
theorem Phi0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi0_eq]
  simp only [before_0, before_1, before_2, before_3, before_4, before_5, before_6]
  iintro ⟨⟨⟨HS0, HS1, HS2, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the host lines after the region write. -/
def T0 : Finset (Ref sig .tc) := {main_v4, main_v5}

theorem sfx_T : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl <;>
    simp only [StableHlo.unary_writes, Finset.mem_singleton] at hb <;>
    (by_contra hne; revert hb; exact StableHlo.devRef_ne_of_ne (fun h => hne (by rw [h]; decide)))

set_option backward.isDefEq.respectTransparency.types false in
/-- From any memory with zero counters: every execution ends, the argument arrays are as launched and every semaphore counter is
    at zero. -/
theorem run_main :
    θ_run defs (onTc (τ := τ) (main (F := F))) (s₀ m ρ) (fun r => Pipeline.RDat.FramePostR (cfgs 0) (fun c => (dats m 0 c).toRForget forgets0) T0
        (fun c b => V0 m c (Proc.devRef .tc b)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hΦ := fun _ _ => rfl) (hQ' := fun _ h => h)

set_option maxRecDepth 16384 in
/-- The frame with quiescence, as the claim states it. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1.arr_in c 1 rfl).trans (V_main_arg0 m c), (h.1.arr_in c 2 rfl).trans (V_main_arg1 m c),
      (h.1.arr_in c 3 rfl).trans (V_main_arg2 m c),
      ((h.1 c).2 main_arg3 (by decide)).trans (V_main_arg3 m c),
      (h.1.arr_in c 5 rfl).trans (V_main_arg4 m c),
      ((h.1 c).2 main_arg5 (by decide)).trans (V_main_arg5 m c),
      ((h.1 c).2 main_arg6 (by decide)).trans (V_main_arg6 m c)⟩, h.2⟩) (run_main m ρ)

end Cert.Kernel.Hand

end
-- ==== Proof.KernelIdealFrame.lean ====
/-
  The kernel body of `KernelIdeal`, run once at symbolic operands, and the frame that follows from it: the launch ends, every
  argument array is as it was, every semaphore counter is at zero. Nothing is said here of what the kernel leaves in its
  five results: their windows are forgotten.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.FrameSuffix
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 4000000 in
/-- From the seven inputs held at their contents, the five outputs and the four scratches at anything, the kernel runs to
    its return and hands back the inputs as they were and the rest at some contents. -/
theorem kernelRun (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (d1 : Vec F S1 .i32) (d2 : Vec F S256x2048 .f32) (d3 : Vec F S256x2048 .bf16) (d4 : Vec F S256x2048 .i8) (d5 : Vec F S16x256 .f32) (d6 : Vec F S256x2048 .i8) (d7 : Vec F S16x256 .f32) (K : PUnit → sProp 𝕄) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ
          (cc0_adamw8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_adamw8_eq_skeleton]; unfold cc0_adamw8_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec_parts
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

/-! ## The proof data and the body obligation -/

/-- The five outputs are forgotten: nothing here reads what the kernel leaves in them. -/
def forgets0 : Fin 12 → Bool := fun w => decide (7 ≤ w.val)

/-- The proof data on core `c`: every window's array as the region finds it; an input's block left in place; the scratches
    and the generator register at anything between points; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => Pipeline.Dat.unnamed (cfg := cfg0) 7 t
    | 8 => Pipeline.Dat.unnamed (cfg := cfg0) 8 t
    | 9 => Pipeline.Dat.unnamed (cfg := cfg0) 9 t
    | 10 => Pipeline.Dat.unnamed (cfg := cfg0) 10 t
    | 11 => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d

/-- What the body is called with at point `t`, and what it returns: each input's staging memref at its block, each output's at
    anything. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

/-- The invariant between points: the four scratches owned at some contents, the generator register at some state. -/
theorem Phi0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi0_eq]
  simp only [before_0, before_1, before_2, before_3, before_4, before_5, before_6]
  iintro ⟨⟨⟨HS0, HS1, HS2, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the host lines after the region write. -/
def T0 : Finset (Ref sig .tc) := {main_v4, main_v5}

theorem sfx_T : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl <;>
    simp only [StableHlo.unary_writes, Finset.mem_singleton] at hb <;>
    (by_contra hne; revert hb; exact StableHlo.devRef_ne_of_ne (fun h => hne (by rw [h]; decide)))

set_option backward.isDefEq.respectTransparency.types false in
/-- From any memory with zero counters: every execution ends, the argument arrays are as launched and every semaphore counter is
    at zero. -/
theorem run_main :
    θ_run defs (onTc (τ := τ) (main (F := F))) (s₀ m ρ) (fun r => Pipeline.RDat.FramePostR (cfgs 0) (fun c => (dats m 0 c).toRForget forgets0) T0
        (fun c b => V0 m c (Proc.devRef .tc b)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m) (hΦ := fun _ _ => rfl) (hQ' := fun _ h => h)

set_option maxRecDepth 16384 in
/-- The frame with quiescence, as the claim states it. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1.arr_in c 1 rfl).trans (V_main_arg0 m c), (h.1.arr_in c 2 rfl).trans (V_main_arg1 m c),
      (h.1.arr_in c 3 rfl).trans (V_main_arg2 m c),
      ((h.1 c).2 main_arg3 (by decide)).trans (V_main_arg3 m c),
      (h.1.arr_in c 5 rfl).trans (V_main_arg4 m c),
      ((h.1 c).2 main_arg5 (by decide)).trans (V_main_arg5 m c),
      ((h.1 c).2 main_arg6 (by decide)).trans (V_main_arg6 m c)⟩, h.2⟩) (run_main m ρ)

end Cert.KernelIdeal.Hand

end
-- ==== Proof.ReferenceFrame.lean ====
/-
  The frame of `ReferenceIdeal`, a straight run of host operations: it ends, its arguments are as launched, every semaphore counter
  is at zero (it has none).
-/
module

public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2.2.2, sem_eq_zero_of_no_sems (by decide) r.2⟩)
    (Cert.ReferenceIdeal.Value.run (F := F) m ρ)

end Cert.ReferenceIdeal.Hand

end
-- ==== Proof.Preserves.lean ====
/-
  The ledger of the named constants: the certificate's table gives each name the real it was computed from.
-/
module

public import proofs.«01_k».proof.Defs

@[expose] public section

noncomputable section

namespace Cert.Proof

open Idealize.ShloMosaic

theorem preserves : Cert.preserves_Kernel_KernelIdeal :=
  ⟨IdealRules.named_const.statement Cert.KernelIdeal.κ "log_beta1" .f32 0xBDD7C741#32 ((Real.log (9 / 10) : ℝ) : EReal) rfl,
    IdealRules.named_const.statement Cert.KernelIdeal.κ "log_beta2" .f32 0xBA832338#32 ((Real.log (999 / 1000) : ℝ) : EReal) rfl,
    IdealRules.named_const.statement Cert.KernelIdeal.κ "v_unit" .f32 0x3A83126F#32 ((1 / 1000 : ℝ) : EReal) rfl,
    IdealRules.named_const.statement Cert.KernelIdeal.κ "eps" .f32 0x322BCC77#32 ((1 / 100000000 : ℝ) : EReal) rfl,
    IdealRules.named_const.statement Cert.KernelIdeal.κ "v_ratio" .f32 0x41FCDB0F#32 ((Real.sqrt 999 : ℝ) : EReal) rfl,
    IdealRules.named_const.statement Cert.KernelIdeal.κ "lr_wd" .f32 0x3727C5AC#32 ((1 / 100000 : ℝ) : EReal) rfl,
    IdealRules.named_const.statement Cert.KernelIdeal.κ "m_back" .f32 0x3A4E69A0#32 ((1 / 1270 : ℝ) : EReal) rfl,
    IdealRules.named_const.statement Cert.KernelIdeal.κ "v_back" .f32 0x39828BFA#32 (((127 * (Real.sqrt 1000))⁻¹ : ℝ) : EReal) rfl⟩

end Cert.Proof

end
-- ==== Proof.Trip.lean ====
/-
  What one trip of the kernel's loop stores: sixteen blocks of 32 rows by 128 columns, each by the same formula. The loop's
  stores are then all the blocks of the eight trips.
-/
module

public import proofs.«01_k».proof.Proof.Gen.KernelIdeal.Loops
public import Idealize.ShloMosaic.Lib.Pipeline.ValueKit
public import Idealize.ShloMosaic.Lib.ValueIdx

@[expose] public section

noncomputable section

namespace Cert.KernelIdeal.Hand

open Cert.KernelIdeal Cert.KernelIdeal.Gen
open Idealize.ShloMosaic Idealize.ShloMosaic.TcCoe

variable {F : FTy → Type} [FloatOps F] [Named F]

/-- A rectangle of a block: 32 rows by 128 columns of a tile. -/
abbrev blockRect (o : Fin 2 → ℕ) (h : ∀ a, o a + S32x128.size a ≤ S256x2048.size a) : Rect S256x2048 := Rect.unit o S32x128.size h

/-- A rectangle of a block's statistic: 32 rows of one column of a scratch. -/
abbrev colRect (o : Fin 2 → ℕ) (h : ∀ a, o a + S32x1.size a ≤ S256x128.size a) : Rect S256x128 := Rect.unit o S32x1.size h

theorem row_inb (k : Fin 8) (j : Fin 16) : ∀ a, (![32 * k.val, 128 * j.val] : Fin 2 → ℕ) a + S32x128.size a ≤ S256x2048.size a :=
  Fin.forall_fin_two.mpr ⟨by show 32 * k.val + 32 ≤ 256; omega, by show 128 * j.val + 128 ≤ 2048; omega⟩

theorem col_inb (k : Fin 8) (j : Fin 16) : ∀ a, (![32 * k.val, j.val] : Fin 2 → ℕ) a + S32x1.size a ≤ S256x128.size a :=
  Fin.forall_fin_two.mpr ⟨by show 32 * k.val + 32 ≤ 256; omega, by show j.val + 1 ≤ 128; omega⟩

/-! ## A family of stores, one per block -/

/-- Something stored per block, at the block's offsets in a tile and at its column's offsets in a scratch. -/
abbrev Family (α : Type) : Type :=
  (o : Fin 2 → ℕ) → (∀ a, o a + S32x128.size a ≤ S256x2048.size a) → (o1 : Fin 2 → ℕ) → (∀ a, o1 a + S32x1.size a ≤ S256x128.size a) → α

/-- The family at trip `k`'s block `j`. -/
def Family.at {α : Type} (f : Family α) (k : Fin 8) (j : Fin 16) : α :=
  f ![32 * k.val, 128 * j.val] (row_inb k j) ![32 * k.val, j.val] (col_inb k j)

theorem at_congr {α : Type} (f : Family α) {o o' o1 o1' : Fin 2 → ℕ} (e : o = o') (e1 : o1 = o1') (h h' h1 h1') :
    f o h o1 h1 = f o' h' o1' h1' := by subst e; subst e1; rfl

theorem trips_eq : k0_t1_loop.trips = 8 := by decide +kernel

/-- The trip as a number below eight. -/
def trip8 (k : Fin k0_t1_loop.trips) : Fin 8 := ⟨k.val, Nat.lt_of_lt_of_eq k.isLt trips_eq⟩

/-- One trip's stores, last first, at the offsets the program computes. -/
def blocks {α : Type} (f : Family α) (k : Fin k0_t1_loop.trips) : List α :=
  [f (k0_off31 k) (k0_off31_inb k) (k0_off32 k) (k0_off32_inb k), f (k0_off29 k) (k0_off29_inb k) (k0_off30 k) (k0_off30_inb k), f (k0_off27 k) (k0_off27_inb k) (k0_off28 k) (k0_off28_inb k), f (k0_off25 k) (k0_off25_inb k) (k0_off26 k) (k0_off26_inb k), f (k0_off23 k) (k0_off23_inb k) (k0_off24 k) (k0_off24_inb k), f (k0_off21 k) (k0_off21_inb k) (k0_off22 k) (k0_off22_inb k), f (k0_off19 k) (k0_off19_inb k) (k0_off20 k) (k0_off20_inb k), f (k0_off17 k) (k0_off17_inb k) (k0_off18 k) (k0_off18_inb k), f (k0_off15 k) (k0_off15_inb k) (k0_off16 k) (k0_off16_inb k), f (k0_off13 k) (k0_off13_inb k) (k0_off14 k) (k0_off14_inb k), f (k0_off11 k) (k0_off11_inb k) (k0_off12 k) (k0_off12_inb k), f (k0_off9 k) (k0_off9_inb k) (k0_off10 k) (k0_off10_inb k), f (k0_off7 k) (k0_off7_inb k) (k0_off8 k) (k0_off8_inb k), f (k0_off5 k) (k0_off5_inb k) (k0_off6 k) (k0_off6_inb k), f (k0_off3 k) (k0_off3_inb k) (k0_off4 k) (k0_off4_inb k), f (k0_off1 k) (k0_off1_inb k) (k0_off2 k) (k0_off2_inb k)]

/-- The offsets are those of trip `k`'s sixteen blocks. -/
theorem blocks_eq {α : Type} (f : Family α) (k : Fin k0_t1_loop.trips) :
    blocks f k = (List.finRange 16).reverse.map (f.at (trip8 k)) := by
  have hk : trip8 k = ⟨k.val, Nat.lt_of_lt_of_eq k.isLt trips_eq⟩ := rfl
  have hl : (List.finRange 16).reverse.map (f.at (trip8 k))
      = [f.at (trip8 k) 15, f.at (trip8 k) 14, f.at (trip8 k) 13, f.at (trip8 k) 12, f.at (trip8 k) 11, f.at (trip8 k) 10, f.at (trip8 k) 9, f.at (trip8 k) 8, f.at (trip8 k) 7, f.at (trip8 k) 6, f.at (trip8 k) 5, f.at (trip8 k) 4, f.at (trip8 k) 3, f.at (trip8 k) 2, f.at (trip8 k) 1, f.at (trip8 k) 0] := rfl
  rw [hl]
  unfold blocks Family.at
  exact congr (congrArg List.cons (at_congr f (k0_off31_eq k) (k0_off32_eq k) _ _ _ _))
    (congr (congrArg List.cons (at_congr f (k0_off29_eq k) (k0_off30_eq k) _ _ _ _))
    (congr (congrArg List.cons (at_congr f (k0_off27_eq k) (k0_off28_eq k) _ _ _ _))
    (congr (congrArg List.cons (at_congr f (k0_off25_eq k) (k0_off26_eq k) _ _ _ _))
    (congr (congrArg List.cons (at_congr f (k0_off23_eq k) (k0_off24_eq k) _ _ _ _))
    (congr (congrArg List.cons (at_congr f (k0_off21_eq k) (k0_off22_eq k) _ _ _ _))
    (congr (congrArg List.cons (at_congr f (k0_off19_eq k) (k0_off20_eq k) _ _ _ _))
    (congr (congrArg List.cons (at_congr f (k0_off17_eq k) (k0_off18_eq k) _ _ _ _))
    (congr (congrArg List.cons (at_congr f (k0_off15_eq k) (k0_off16_eq k) _ _ _ _))
    (congr (congrArg List.cons (at_congr f (k0_off13_eq k) (k0_off14_eq k) _ _ _ _))
    (congr (congrArg List.cons (at_congr f (k0_off11_eq k) (k0_off12_eq k) _ _ _ _))
    (congr (congrArg List.cons (at_congr f (k0_off9_eq k) (k0_off10_eq k) _ _ _ _))
    (congr (congrArg List.cons (at_congr f (k0_off7_eq k) (k0_off8_eq k) _ _ _ _))
    (congr (congrArg List.cons (at_congr f (k0_off5_eq k) (k0_off6_eq k) _ _ _ _))
    (congr (congrArg List.cons (at_congr f (k0_off3_eq k) (k0_off4_eq k) _ _ _ _))
    (congr (congrArg List.cons (at_congr f (k0_off1_eq k) (k0_off2_eq k) _ _ _ _))
    (rfl))))))))))))))))

/-- The stores of the first `n` trips, last first. -/
def blocksBefore {α : Type} (f : Family α) : ℕ → List α
  | 0 => []
  | n + 1 => (if h : n < k0_t1_loop.trips then blocks f ⟨n, h⟩ else []) ++ blocksBefore f n

theorem mem_blocks {α : Type} {f : Family α} {k : Fin k0_t1_loop.trips} {p : α} :
    p ∈ blocks f k ↔ ∃ j, f.at (trip8 k) j = p := by
  rw [blocks_eq]
  simp only [List.mem_map, List.mem_reverse, List.mem_finRange, true_and]

/-- The stores of all trips: each block once. -/
theorem mem_blocksBefore {α : Type} {f : Family α} {p : α} : ∀ n ≤ 8,
    (p ∈ blocksBefore f n ↔ ∃ k : Fin 8, k.val < n ∧ ∃ j, f.at k j = p)
  | 0, _ => by simp [blocksBefore]
  | n + 1, hn => by
    have hlt : n < k0_t1_loop.trips := by rw [trips_eq]; omega
    rw [blocksBefore, dif_pos hlt, List.mem_append, mem_blocks, mem_blocksBefore n (by omega)]
    constructor
    · rintro (⟨j, h⟩ | ⟨k, hk, j, h⟩)
      · exact ⟨trip8 ⟨n, hlt⟩, Nat.lt_succ_self n, j, h⟩
      · exact ⟨k, by omega, j, h⟩
    · rintro ⟨k, hk, j, h⟩
      rcases Nat.lt_succ_iff_lt_or_eq.mp hk with h' | h'
      · exact Or.inr ⟨k, h', j, h⟩
      · refine Or.inl ⟨j, ?_⟩
        rw [show trip8 ⟨n, hlt⟩ = k from Fin.ext h'.symm]; exact h

/-! ## What each of the five results stores per block -/

/-- A block of the step. -/
def deltaAt (v19 : FVec F S1x8x128 .f32) (v22 : FVec F S1x8x128 .f32) (arg2 : Memref sig .tc .vmem S256x2048 .f32) (arg3 : Memref sig .tc .vmem S256x2048 .bf16) (arg4 : Memref sig .tc .vmem S256x2048 .i8) (arg6 : Memref sig .tc .vmem S256x2048 .i8) (arg13 : Memref sig .tc .vmem S256x128 .f32) (arg14 : Memref sig .tc .vmem S256x128 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty) : Family (View.Piece (Elt F) S256x2048 .f32) := fun o h o1 h1 => ⟨blockRect o h, k0_pay10 v19 v22 (View.readAt (Elt F) arg3.view (blockRect o h).toLoadRect X_arg3) (View.readAt (Elt F) arg4.view (blockRect o h).toLoadRect X_arg4) (View.readAt (Elt F) arg13.view (colRect o1 h1).toLoadRect X_arg13) (View.readAt (Elt F) arg6.view (blockRect o h).toLoadRect X_arg6) (View.readAt (Elt F) arg14.view (colRect o1 h1).toLoadRect X_arg14) (View.readAt (Elt F) arg2.view (blockRect o h).toLoadRect X_arg2)⟩

/-- A block of the first moment's codes. -/
def mcodesAt (arg3 : Memref sig .tc .vmem S256x2048 .bf16) (arg4 : Memref sig .tc .vmem S256x2048 .i8) (arg13 : Memref sig .tc .vmem S256x128 .f32) (X_arg3 : BufTy.Contents (Elt F) arg3.view.ty) (X_arg4 : BufTy.Contents (Elt F) arg4.view.ty) (X_arg13 : BufTy.Contents (Elt F) arg13.view.ty) : Family (View.Piece (Elt F) S256x2048 .i8) := fun o h o1 h1 => ⟨blockRect o h, k0_pay15 (k0_pay6 (View.readAt (Elt F) arg3.view (blockRect o h).toLoadRect X_arg3) (View.readAt (Elt F) arg4.view (blockRect o h).toLoadRect X_arg4) (View.readAt (Elt F) arg13.view (colRect o1 h1).toLoadRect X_arg13)) (k0_pay11 (View.readAt (Elt F) arg3.view (blockRect o h).toLoadRect X_arg3) (View.readAt (Elt F) arg4.view (blockRect o h).toLoadRect X_arg4) (View.readAt (Elt F) arg13.view (colRect o1 h1).toLoadRect X_arg13))⟩

/-- A block of the second moment's codes. -/
def vcodesAt (arg3 : Memref sig .tc .vmem S256x2048 .bf16) (arg6 : Memref sig .tc .vmem S256x2048 .i8) (arg14 : Memref sig .tc .vmem S256x128 .f32) (X_arg3 : BufTy.Contents (Elt F) arg3.view.ty) (X_arg6 : BufTy.Contents (Elt F) arg6.view.ty) (X_arg14 : BufTy.Contents (Elt F) arg14.view.ty) : Family (View.Piece (Elt F) S256x2048 .i8) := fun o h o1 h1 => ⟨blockRect o h, k0_pay16 (k0_pay8 (View.readAt (Elt F) arg3.view (blockRect o h).toLoadRect X_arg3) (View.readAt (Elt F) arg6.view (blockRect o h).toLoadRect X_arg6) (View.readAt (Elt F) arg14.view (colRect o1 h1).toLoadRect X_arg14)) (k0_pay9 (View.readAt (Elt F) arg3.view (blockRect o h).toLoadRect X_arg3) (View.readAt (Elt F) arg6.view (blockRect o h).toLoadRect X_arg6) (View.readAt (Elt F) arg14.view (colRect o1 h1).toLoadRect X_arg14))⟩

/-- A block of the first moment's largest magnitude. -/
def mmaxAt (arg3 : Memref sig .tc .vmem S256x2048 .bf16) (arg4 : Memref sig .tc .vmem S256x2048 .i8) (arg13 : Memref sig .tc .vmem S256x128 .f32) (X_arg3 : BufTy.Contents (Elt F) arg3.view.ty) (X_arg4 : BufTy.Contents (Elt F) arg4.view.ty) (X_arg13 : BufTy.Contents (Elt F) arg13.view.ty) : Family (View.Piece (Elt F) S256x128 .f32) := fun o h o1 h1 => ⟨colRect o1 h1, k0_pay13 (k0_pay11 (View.readAt (Elt F) arg3.view (blockRect o h).toLoadRect X_arg3) (View.readAt (Elt F) arg4.view (blockRect o h).toLoadRect X_arg4) (View.readAt (Elt F) arg13.view (colRect o1 h1).toLoadRect X_arg13))⟩

/-- A block of the second moment's largest value. -/
def vmaxAt (arg3 : Memref sig .tc .vmem S256x2048 .bf16) (arg6 : Memref sig .tc .vmem S256x2048 .i8) (arg14 : Memref sig .tc .vmem S256x128 .f32) (X_arg3 : BufTy.Contents (Elt F) arg3.view.ty) (X_arg6 : BufTy.Contents (Elt F) arg6.view.ty) (X_arg14 : BufTy.Contents (Elt F) arg14.view.ty) : Family (View.Piece (Elt F) S256x128 .f32) := fun o h o1 h1 => ⟨colRect o1 h1, k0_pay14 (k0_pay8 (View.readAt (Elt F) arg3.view (blockRect o h).toLoadRect X_arg3) (View.readAt (Elt F) arg6.view (blockRect o h).toLoadRect X_arg6) (View.readAt (Elt F) arg14.view (colRect o1 h1).toLoadRect X_arg14))⟩

set_option maxHeartbeats 4000000 in
theorem trip_delta (𝒱 : Variants) (c : Dev nD) (bd : Option 𝒱.V) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 X_arg2 X_arg3 X_arg4 X_arg6 X_arg13 X_arg14 k).1 = blocks (deltaAt (F := F) v19 v22 arg2 arg3 arg4 arg6 arg13 arg14 X_arg2 X_arg3 X_arg4 X_arg6 X_arg13 X_arg14) k := by
  unfold trip_k0_t1
  rfl

set_option maxHeartbeats 4000000 in
theorem trip_mcodes (𝒱 : Variants) (c : Dev nD) (bd : Option 𝒱.V) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 X_arg2 X_arg3 X_arg4 X_arg6 X_arg13 X_arg14 k).2.1 = blocks (mcodesAt (F := F) arg3 arg4 arg13 X_arg3 X_arg4 X_arg13) k := by
  unfold trip_k0_t1
  rfl

set_option maxHeartbeats 4000000 in
theorem trip_vcodes (𝒱 : Variants) (c : Dev nD) (bd : Option 𝒱.V) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 X_arg2 X_arg3 X_arg4 X_arg6 X_arg13 X_arg14 k).2.2.1 = blocks (vcodesAt (F := F) arg3 arg6 arg14 X_arg3 X_arg6 X_arg14) k := by
  unfold trip_k0_t1
  rfl

set_option maxHeartbeats 4000000 in
theorem trip_mmax (𝒱 : Variants) (c : Dev nD) (bd : Option 𝒱.V) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 X_arg2 X_arg3 X_arg4 X_arg6 X_arg13 X_arg14 k).2.2.2.1 = blocks (mmaxAt (F := F) arg3 arg4 arg13 X_arg3 X_arg4 X_arg13) k := by
  unfold trip_k0_t1
  rfl

set_option maxHeartbeats 4000000 in
theorem trip_vmax (𝒱 : Variants) (c : Dev nD) (bd : Option 𝒱.V) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 X_arg2 X_arg3 X_arg4 X_arg6 X_arg13 X_arg14 k).2.2.2.2.1 = blocks (vmaxAt (F := F) arg3 arg6 arg14 X_arg3 X_arg6 X_arg14) k := by
  unfold trip_k0_t1
  rfl

/-- The loop's stores after `n` trips. -/
theorem pb_eq (𝒱 : Variants) (c : Dev nD) (bd : Option 𝒱.V) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32) (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty) : ∀ n ≤ 8, pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 X_arg2 X_arg3 X_arg4 X_arg6 X_arg13 X_arg14 n
    = (blocksBefore (deltaAt (F := F) v19 v22 arg2 arg3 arg4 arg6 arg13 arg14 X_arg2 X_arg3 X_arg4 X_arg6 X_arg13 X_arg14) n, blocksBefore (mcodesAt (F := F) arg3 arg4 arg13 X_arg3 X_arg4 X_arg13) n, blocksBefore (vcodesAt (F := F) arg3 arg6 arg14 X_arg3 X_arg6 X_arg14) n, blocksBefore (mmaxAt (F := F) arg3 arg4 arg13 X_arg3 X_arg4 X_arg13) n, blocksBefore (vmaxAt (F := F) arg3 arg6 arg14 X_arg3 X_arg6 X_arg14) n)
  | 0, _ => rfl
  | n + 1, hn => by
    have hlt : n < k0_t1_loop.trips := by rw [trips_eq]; omega
    rw [show n + 1 = (⟨n, hlt⟩ : Fin k0_t1_loop.trips).val + 1 from rfl, pb_k0_t1_succ]
    simp only [tripL_k0_t1, trip_delta, trip_mcodes, trip_vcodes, trip_mmax, trip_vmax, pb_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 X_arg2 X_arg3 X_arg4 X_arg6 X_arg13 X_arg14 n (by omega),
      blocksBefore, dif_pos hlt]

end Cert.KernelIdeal.Hand

end
-- ==== Proof.Tile.lean ====
/-
  Reading back what the loop stored: a tile written block by block holds, at each index, its block's value there; a scratch
  column written in runs of 32 rows holds each run. With it, what one grid point computes of its inputs, by block.
-/
module

public import proofs.«01_k».proof.Proof.Trip
public import Idealize.ShloMosaic.Lib.Pipeline.Value
public import Idealize.ShloMosaic.Lib.Pipeline.FrameBody
public import Idealize.ShloMosaic.Lib.WritesUnit

@[expose] public section

noncomputable section

namespace Cert.KernelIdeal.Hand

open Cert.KernelIdeal Cert.KernelIdeal.Gen
open Idealize.ShloMosaic hiding ix1 ix2 ix3 eq_ix1 eq_ix2 eq_ix3
open Idealize.ShloMosaic.TcCoe Idealize.ShloMosaic.ValueIdx

variable {F : FTy → Type} [FloatOps F] [Named F] {e : EltTy}

/-! ## Blocks of a tile, columns of a scratch -/

/-- Block `(k, j)` of a tile. -/
def blockLd (d : Vec F S256x2048 e) (k : Fin 8) (j : Fin 16) : Vec F S32x128 e :=
  View.ld d (blockRect ![32 * k.val, 128 * j.val] (row_inb k j))

/-- Rows `32 k` to `32 k + 31` of column `j`. -/
def colLd (w : Vec F S256x16 e) (k : Fin 8) (j : Fin 16) : Vec F S32x1 e :=
  fun x => w (ix2 ⟨32 * k.val + (x (0 : Fin 2)).val, by have : (x (0 : Fin 2)).val < 32 := (x (0 : Fin 2)).isLt; omega⟩ j)

/-- The tile whose block `(k, j)` is `w k j`. -/
def tile (w : Fin 8 → Fin 16 → Vec F S32x128 e) : Vec F S256x2048 e := fun y =>
  w ⟨(y (0 : Fin 2)).val / 32, by have : (y (0 : Fin 2)).val < 256 := (y (0 : Fin 2)).isLt; omega⟩
    ⟨(y (1 : Fin 2)).val / 128, by have : (y (1 : Fin 2)).val < 2048 := (y (1 : Fin 2)).isLt; omega⟩
    (ix2 ⟨(y (0 : Fin 2)).val % 32, by omega⟩ ⟨(y (1 : Fin 2)).val % 128, by omega⟩)

/-- The scratch whose column `j` holds `w k j` in rows `32 k` to `32 k + 31`, for the first sixteen columns (the others
    repeat them: nothing reads them). -/
def cols (w : Fin 8 → Fin 16 → Vec F S32x1 e) : Vec F S256x128 e := fun y =>
  w ⟨(y (0 : Fin 2)).val / 32, by have : (y (0 : Fin 2)).val < 256 := (y (0 : Fin 2)).isLt; omega⟩
    ⟨(y (1 : Fin 2)).val % 16, by omega⟩
    (ix2 ⟨(y (0 : Fin 2)).val % 32, by omega⟩ 0)

/-- The tile at an index of block `(k, j)`. -/
theorem tile_apply (w : Fin 8 → Fin 16 → Vec F S32x128 e) (k : Fin 8) (j : Fin 16) (x : S32x128.Idx) (y : S256x2048.Idx)
    (h0 : (y (0 : Fin 2)).val = 32 * k.val + (x (0 : Fin 2)).val) (h1 : (y (1 : Fin 2)).val = 128 * j.val + (x (1 : Fin 2)).val) :
    tile w y = w k j x := by
  have hx0 : (x (0 : Fin 2)).val < 32 := (x (0 : Fin 2)).isLt
  have hx1 : (x (1 : Fin 2)).val < 128 := (x (1 : Fin 2)).isLt
  obtain ⟨a, b, rfl⟩ : ∃ a b, x = ix2 a b := ⟨x 0, x 1, eq_ix2 x⟩
  have ek : ∀ h, (⟨(y (0 : Fin 2)).val / 32, h⟩ : Fin 8) = k := fun h => Fin.ext (by show _ / 32 = k.val; omega)
  have ej : ∀ h, (⟨(y (1 : Fin 2)).val / 128, h⟩ : Fin 16) = j := fun h => Fin.ext (by show _ / 128 = j.val; omega)
  have ea : ∀ h, (⟨(y (0 : Fin 2)).val % 32, h⟩ : Fin 32) = a := fun h => Fin.ext (by
    have : (y (0 : Fin 2)).val = 32 * k.val + a.val := h0
    have : a.val < 32 := a.isLt
    show _ % 32 = a.val; omega)
  have eb : ∀ h, (⟨(y (1 : Fin 2)).val % 128, h⟩ : Fin 128) = b := fun h => Fin.ext (by
    have : (y (1 : Fin 2)).val = 128 * j.val + b.val := h1
    have : b.val < 128 := b.isLt
    show _ % 128 = b.val; omega)
  unfold tile
  rw [ek, ej, ea, eb]

/-- The scratch at an index of column `j`. -/
theorem cols_apply (w : Fin 8 → Fin 16 → Vec F S32x1 e) (k : Fin 8) (j : Fin 16) (x : S32x1.Idx) (y : S256x128.Idx)
    (h0 : (y (0 : Fin 2)).val = 32 * k.val + (x (0 : Fin 2)).val) (h1 : (y (1 : Fin 2)).val = j.val) :
    cols w y = w k j x := by
  have hx0 : (x (0 : Fin 2)).val < 32 := (x (0 : Fin 2)).isLt
  obtain ⟨a, b, rfl⟩ : ∃ a b, x = ix2 a b := ⟨x 0, x 1, eq_ix2 x⟩
  have ek : ∀ h, (⟨(y (0 : Fin 2)).val / 32, h⟩ : Fin 8) = k := fun h => Fin.ext (by show _ / 32 = k.val; omega)
  have ej : ∀ h, (⟨(y (1 : Fin 2)).val % 16, h⟩ : Fin 16) = j := fun h => Fin.ext (by
    have := j.isLt
    show _ % 16 = j.val; omega)
  have ea : ∀ h, (⟨(y (0 : Fin 2)).val % 32, h⟩ : Fin 32) = a := fun h => Fin.ext (by
    have : (y (0 : Fin 2)).val = 32 * k.val + a.val := h0
    have : a.val < 32 := a.isLt
    show _ % 32 = a.val; omega)
  have eb : b = (0 : Fin 1) := Subsingleton.elim (α := Fin 1) _ _
  unfold cols
  rw [ek, ej, ea, eb]

/-- What reads a tile after the loop's stores reads the blocks stored. -/
theorem read_tile {sp : Space} (v : View sig .tc sp S256x2048 e) (f : v.ty.Contents (Elt F)) (fam : Family (View.Piece (Elt F) S256x2048 e))
    (w : Fin 8 → Fin 16 → Vec F S32x128 e) (hw : ∀ k j, fam.at k j = ⟨blockRect _ (row_inb k j), w k j⟩) :
    v.read (Elt F) (v.writes (Elt F) f (blocksBefore fam 8)) = tile w := by
  funext y
  have hy0 : (y (0 : Fin 2)).val < 256 := (y (0 : Fin 2)).isLt
  have hy1 : (y (1 : Fin 2)).val < 2048 := (y (1 : Fin 2)).isLt
  have hc : ∃ p ∈ blocksBefore fam 8, y ∈ p.1.set := by
    refine ⟨_, (mem_blocksBefore 8 (le_refl 8)).mpr ⟨⟨(y (0 : Fin 2)).val / 32, by omega⟩, by show _ / 32 < 8; omega,
      ⟨(y (1 : Fin 2)).val / 128, by omega⟩, rfl⟩, ?_⟩
    rw [hw]
    refine (Rect.mem_set_unit (s := S256x2048) (inb := row_inb _ _)).mpr (Fin.forall_fin_two.mpr ⟨⟨?_, ?_⟩, ⟨?_, ?_⟩⟩)
    · show 32 * ((y (0 : Fin 2)).val / 32) ≤ (y (0 : Fin 2)).val; omega
    · show (y (0 : Fin 2)).val < 32 * ((y (0 : Fin 2)).val / 32) + 32; omega
    · show 128 * ((y (1 : Fin 2)).val / 128) ≤ (y (1 : Fin 2)).val; omega
    · show (y (1 : Fin 2)).val < 128 * ((y (1 : Fin 2)).val / 128) + 128; omega
  rw [View.read_writes_apply_eq_canon v f y _ hc]
  refine View.canon_eq_of_allAt _ y _ hc fun p hp x hx => ?_
  obtain ⟨k, -, j, rfl⟩ := (mem_blocksBefore 8 (le_refl 8)).mp hp
  revert x
  rw [hw]
  intro x hx
  have h0 : 32 * k.val + 1 * (x (0 : Fin 2)).val = (y (0 : Fin 2)).val := congrArg (fun z : S256x2048.Idx => (z (0 : Fin 2)).val) hx
  have h1 : 128 * j.val + 1 * (x (1 : Fin 2)).val = (y (1 : Fin 2)).val := congrArg (fun z : S256x2048.Idx => (z (1 : Fin 2)).val) hx
  have hx0 : (x (0 : Fin 2)).val < 32 := (x (0 : Fin 2)).isLt
  have hx1 : (x (1 : Fin 2)).val < 128 := (x (1 : Fin 2)).isLt
  exact (tile_apply w k j x y (by omega) (by omega)).symm

/-- What reads the first sixteen columns of a scratch after the loop's stores reads the columns stored. -/
theorem read_cols {sp : Space} (v : View sig .tc sp S256x128 e) (f : v.ty.Contents (Elt F)) (fam : Family (View.Piece (Elt F) S256x128 e))
    (w : Fin 8 → Fin 16 → Vec F S32x1 e) (hw : ∀ k j, fam.at k j = ⟨colRect _ (col_inb k j), w k j⟩)
    (y : S256x128.Idx) (hy1 : (y (1 : Fin 2)).val < 16) :
    v.read (Elt F) (v.writes (Elt F) f (blocksBefore fam 8)) y = cols w y := by
  have hy0 : (y (0 : Fin 2)).val < 256 := (y (0 : Fin 2)).isLt
  have hc : ∃ p ∈ blocksBefore fam 8, y ∈ p.1.set := by
    refine ⟨_, (mem_blocksBefore 8 (le_refl 8)).mpr ⟨⟨(y (0 : Fin 2)).val / 32, by omega⟩, by show _ / 32 < 8; omega,
      ⟨(y (1 : Fin 2)).val, by omega⟩, rfl⟩, ?_⟩
    rw [hw]
    refine (Rect.mem_set_unit (s := S256x128) (inb := col_inb _ _)).mpr (Fin.forall_fin_two.mpr ⟨⟨?_, ?_⟩, ⟨?_, ?_⟩⟩)
    · show 32 * ((y (0 : Fin 2)).val / 32) ≤ (y (0 : Fin 2)).val; omega
    · show (y (0 : Fin 2)).val < 32 * ((y (0 : Fin 2)).val / 32) + 32; omega
    · show (y (1 : Fin 2)).val ≤ (y (1 : Fin 2)).val; omega
    · show (y (1 : Fin 2)).val < (y (1 : Fin 2)).val + 1; omega
  rw [View.read_writes_apply_eq_canon v f y _ hc]
  refine View.canon_eq_of_allAt _ y _ hc fun p hp x hx => ?_
  obtain ⟨k, -, j, rfl⟩ := (mem_blocksBefore 8 (le_refl 8)).mp hp
  revert x
  rw [hw]
  intro x hx
  have h0 : 32 * k.val + 1 * (x (0 : Fin 2)).val = (y (0 : Fin 2)).val := congrArg (fun z : S256x128.Idx => (z (0 : Fin 2)).val) hx
  have h1 : j.val + 1 * (x (1 : Fin 2)).val = (y (1 : Fin 2)).val := congrArg (fun z : S256x128.Idx => (z (1 : Fin 2)).val) hx
  have hx0 : (x (0 : Fin 2)).val < 32 := (x (0 : Fin 2)).isLt
  have hx1 : (x (1 : Fin 2)).val < 1 := (x (1 : Fin 2)).isLt
  exact (cols_apply w k j x y (by omega) (by omega)).symm

/-- A load of a block of a tile. -/
theorem load_block {sp : Space} (v : View sig .tc sp S256x2048 e) (f : v.ty.Contents (Elt F)) (d : Vec F S256x2048 e)
    (h : v.read (Elt F) f = d) (k : Fin 8) (j : Fin 16) :
    View.readAt (Elt F) v (blockRect ![32 * k.val, 128 * j.val] (row_inb k j)).toLoadRect f = blockLd d k j := by
  subst h; rfl

/-- A load of a column of a scratch whose first sixteen columns were stored. -/
theorem load_col {sp : Space} (v : View sig .tc sp S256x128 e) (f : v.ty.Contents (Elt F)) (w : Vec F S256x16 e)
    (inb : ∀ a, (![0, 0] : Fin 2 → ℕ) a + S256x16.size a ≤ S256x128.size a) (k : Fin 8) (j : Fin 16) :
    View.readAt (Elt F) v (colRect ![32 * k.val, j.val] (col_inb k j)).toLoadRect
      (v.writes (Elt F) f [⟨Rect.unit ![0, 0] S256x16.size inb, w⟩]) = colLd w k j := by
  funext x
  have hx1 : (x (1 : Fin 2)).val < 1 := (x (1 : Fin 2)).isLt
  refine (View.read_writes_cons_unit_of_mem v f inb w [] _ (ix2 ⟨32 * k.val + (x (0 : Fin 2)).val, by
    have : (x (0 : Fin 2)).val < 32 := (x (0 : Fin 2)).isLt; omega⟩ j) rfl (Fin.forall_fin_two.mpr ⟨?_, ?_⟩)).trans rfl
  · show 32 * k.val + 1 * (x (0 : Fin 2)).val = 0 + (32 * k.val + (x (0 : Fin 2)).val); omega
  · show j.val + 1 * (x (1 : Fin 2)).val = 0 + j.val; omega

/-- A load of a whole buffer reads its contents. -/
theorem load_whole {S : Shape} {sp : Space} (v : View sig .tc sp S e) (f : v.ty.Contents (Elt F)) (d : Vec F S e)
    (h : v.read (Elt F) f = d) {off : Fin S.rank → ℕ} (ho : off = fun _ => 0) (inb : ∀ a, off a + S.size a ≤ S.size a) :
    View.readAt (Elt F) v (Rect.unit off S.size inb).toLoadRect f = d := by
  subst h; rw [View.readAt_eq_ld, View.ld_unit_zero ho]

/-- A whole buffer stored at once holds what was stored. -/
theorem read_whole {S : Shape} {sp : Space} (v : View sig .tc sp S e) (f : v.ty.Contents (Elt F)) (w : Vec F S e)
    {off : Fin S.rank → ℕ} (ho : off = fun _ => 0) (inb : ∀ a, off a + S.size a ≤ S.size a) :
    v.read (Elt F) (v.writes (Elt F) f [⟨Rect.unit off S.size inb, w⟩]) = w := by
  rw [View.read_writes_eq_canon v f _ fun y => ⟨_, List.mem_singleton_self _, View.mem_set_unit_zero ho inb y⟩, View.canon_unit_zero ho]

theorem zero2 : (![0, 0] : Fin 2 → ℕ) = fun _ => 0 := by
  funext a; revert a; exact Fin.forall_fin_two.mpr ⟨rfl, rfl⟩

/-- The load of the step number. -/
theorem load_step {sp : Space} (v : View sig .tc sp S1 .i32) (f : v.ty.Contents (Elt F)) (d : Vec F S1 .i32) (h : v.read (Elt F) f = d)
    (inb : ∀ a, (![0] : Fin 1 → ℕ) a + S1.size a ≤ S1.size a) (x : S1.Idx) :
    View.readAt (Elt F) v (Rect.unit ![0] S1.size inb).toLoadRect f x = d (ValueIdx.ix1 0) := by
  rw [load_whole v f d h (funext fun a => by rw [Subsingleton.elim (α := Fin 1) a 0]; rfl)]
  exact congrArg d (funext fun a => by
    rw [Subsingleton.elim (α := Fin 1) a 0]
    exact Subsingleton.elim (α := Fin 1) _ _)

/-! ## What one grid point computes, of the contents of its windows -/

section Point
variable (d1 : Vec F S1 .i32) (d2 : Vec F S256x2048 .f32) (d3 : Vec F S256x2048 .bf16) (d4 : Vec F S256x2048 .i8) (d5 : Vec F S16x256 .f32)
  (d6 : Vec F S256x2048 .i8) (d7 : Vec F S16x256 .f32)

/-- The step number. -/
def stepOf : Elt F .i32 := d1 (ValueIdx.ix1 0)

/-- Ten times the new first moment, in block `(k, j)`. -/
def mBlk (k : Fin 8) (j : Fin 16) : FVec F S32x128 .f32 := k0_pay6 (blockLd d3 k j) (blockLd d4 k j) (colLd (k0_pay223 d5) k j)
/-- Its largest magnitude per row. -/
def mMax (k : Fin 8) (j : Fin 16) : FVec F S32x1 .f32 := k0_pay11 (blockLd d3 k j) (blockLd d4 k j) (colLd (k0_pay223 d5) k j)
/-- A thousand times the new second moment, kept away from zero, in block `(k, j)`. -/
def vPos (k : Fin 8) (j : Fin 16) : FVec F S32x128 .f32 := k0_pay8 (blockLd d3 k j) (blockLd d6 k j) (colLd (k0_pay224 d7) k j)
/-- The square root of a thousand times the new second moment. -/
def vRoot (k : Fin 8) (j : Fin 16) : FVec F S32x128 .f32 := k0_pay9 (blockLd d3 k j) (blockLd d6 k j) (colLd (k0_pay224 d7) k j)

def outDelta : Vec F S256x2048 .f32 := tile fun k j =>
  k0_pay10 (k0_pay221 (stepOf d1)) (k0_pay222 (stepOf d1)) (blockLd d3 k j) (blockLd d4 k j) (colLd (k0_pay223 d5) k j)
    (blockLd d6 k j) (colLd (k0_pay224 d7) k j) (blockLd d2 k j)
def outMCodes : Vec F S256x2048 .i8 := tile fun k j => k0_pay15 (mBlk d3 d4 d5 k j) (mMax d3 d4 d5 k j)
def outMScale : Vec F S16x256 .f32 := k0_pay3 (cols fun k j => k0_pay13 (mMax d3 d4 d5 k j))
def outVCodes : Vec F S256x2048 .i8 := tile fun k j => k0_pay16 (vPos d3 d6 d7 k j) (vRoot d3 d6 d7 k j)
def outVScale : Vec F S16x256 .f32 := k0_pay4 (cols fun k j => k0_pay14 (vPos d3 d6 d7 k j))

end Point

/-! ## The last two stores read the first sixteen columns alone -/

theorem first_cols (v v' : Vec F S256x128 .f32) (h : ∀ y : S256x128.Idx, (y (1 : Fin 2)).val < 16 → v y = v' y) :
    extractStridedSlice S16x256 ![0, 0] (transpose S128x256 [1, 0] v transposes_S256x128_p1_0_S128x256) slices_S128x256_o0_0_S16x256
      = extractStridedSlice S16x256 ![0, 0] (transpose S128x256 [1, 0] v' transposes_S256x128_p1_0_S128x256) slices_S128x256_o0_0_S16x256 := by
  funext y
  have hy : (y (0 : Fin 2)).val < 16 := (y (0 : Fin 2)).isLt
  refine h _ ?_
  show 0 + (y (0 : Fin 2)).val < 16
  omega

theorem pay3_congr (v v' : Vec F S256x128 .f32) (h : ∀ y : S256x128.Idx, (y (1 : Fin 2)).val < 16 → v y = v' y) :
    k0_pay3 v = k0_pay3 v' := by
  unfold k0_pay3; dsimp only; rw [first_cols v v' h]

theorem pay4_congr (v v' : Vec F S256x128 .f32) (h : ∀ y : S256x128.Idx, (y (1 : Fin 2)).val < 16 → v y = v' y) :
    k0_pay4 v = k0_pay4 v' := by
  unfold k0_pay4; dsimp only; rw [first_cols v v' h]

end Cert.KernelIdeal.Hand

end
-- ==== Proof.Body.lean ====
/-
  The kernel body of `KernelIdeal`, run once at symbolic operands: what it leaves in its five results is what Proof/Tile.lean
  names, of the contents of its seven inputs.
-/
module

public import proofs.«01_k».proof.Proof.Gen.KernelIdeal.Frame
public import proofs.«01_k».proof.Proof.Gen.KernelIdeal.Loops
public import proofs.«01_k».proof.Proof.Tile
public import proofs.«01_k».proof.Proof.Gen.KernelIdeal.Skeleton
public import Idealize.ShloMosaic.Lib.Pipeline.FrameSuffix
public import Idealize.ShloMosaic.Lib.Tactic

@[expose] public section

noncomputable section

namespace Cert.KernelIdeal.Exact

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the loop leaves -/

set_option maxHeartbeats 2000000 in
theorem read_8 (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32)
    (f2 : BufTy.Contents (Elt F) arg2.view.ty) (f3 : BufTy.Contents (Elt F) arg3.view.ty) (f4 : BufTy.Contents (Elt F) arg4.view.ty) (f6 : BufTy.Contents (Elt F) arg6.view.ty)
    (f13 : BufTy.Contents (Elt F) arg13.view.ty) (f14 : BufTy.Contents (Elt F) arg14.view.ty) (w13 w14 : FVec F S256x16 .f32)
    (d1 : Vec F S1 .i32) (d2 : Vec F S256x2048 .f32) (d3 : Vec F S256x2048 .bf16) (d4 : Vec F S256x2048 .i8) (d5 : Vec F S16x256 .f32) (d6 : Vec F S256x2048 .i8) (d7 : Vec F S16x256 .f32)
    (h19 : v19 = k0_pay221 (stepOf d1)) (h22 : v22 = k0_pay222 (stepOf d1)) (e2 : View.read (Elt F) arg2.view f2 = d2) (e3 : View.read (Elt F) arg3.view f3 = d3)
    (e4 : View.read (Elt F) arg4.view f4 = d4) (e6 : View.read (Elt F) arg6.view f6 = d6) (h13 : w13 = k0_pay223 d5) (h14 : w14 = k0_pay224 d7) (n : ℕ) (hn : n = 8)
    (f8 : BufTy.Contents (Elt F) arg8.view.ty) :
    View.read (Elt F) arg8.view (arg8.view.writes (Elt F) f8 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 f2 f3 f4 f6 (arg13.view.writes (Elt F) f13 [⟨Rect.unit ![0, 0] S256x16.size inb_S256x128_S256x16_0_0, w13⟩]) (arg14.view.writes (Elt F) f14 [⟨Rect.unit ![0, 0] S256x16.size inb_S256x128_S256x16_0_0, w14⟩]) n).1) = outDelta d1 d2 d3 d4 d5 d6 d7 := by
  subst hn h19 h22 h13 h14
  rw [pb_eq _ _ _ _ _ _ _ _ _ _ _ _ _ _ _ _ _ _ _ _ _ _ _ _ _ _ _ _ _ _ _ _ _ _ _ _ _ _ _ _ _ _ _ _ 8 (le_refl 8)]
  refine read_tile _ _ _ _ fun k j => ?_
  show (⟨blockRect _ (row_inb k j), k0_pay10 (k0_pay221 (stepOf d1)) (k0_pay222 (stepOf d1)) (View.readAt (Elt F) arg3.view (blockRect ![32 * k.val, 128 * j.val] (row_inb k j)).toLoadRect f3) (View.readAt (Elt F) arg4.view (blockRect ![32 * k.val, 128 * j.val] (row_inb k j)).toLoadRect f4) (View.readAt (Elt F) arg13.view (colRect ![32 * k.val, j.val] (col_inb k j)).toLoadRect (arg13.view.writes (Elt F) f13 [⟨Rect.unit ![0, 0] S256x16.size inb_S256x128_S256x16_0_0, k0_pay223 d5⟩])) (View.readAt (Elt F) arg6.view (blockRect ![32 * k.val, 128 * j.val] (row_inb k j)).toLoadRect f6) (View.readAt (Elt F) arg14.view (colRect ![32 * k.val, j.val] (col_inb k j)).toLoadRect (arg14.view.writes (Elt F) f14 [⟨Rect.unit ![0, 0] S256x16.size inb_S256x128_S256x16_0_0, k0_pay224 d7⟩])) (View.readAt (Elt F) arg2.view (blockRect ![32 * k.val, 128 * j.val] (row_inb k j)).toLoadRect f2)⟩ : View.Piece (Elt F) S256x2048 .f32) = _
  rw [load_block _ _ _ e2, load_block _ _ _ e3, load_block _ _ _ e4, load_block _ _ _ e6, load_col, load_col]

set_option maxHeartbeats 2000000 in
theorem read_9 (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32)
    (f2 : BufTy.Contents (Elt F) arg2.view.ty) (f3 : BufTy.Contents (Elt F) arg3.view.ty) (f4 : BufTy.Contents (Elt F) arg4.view.ty) (f6 : BufTy.Contents (Elt F) arg6.view.ty)
    (f13 : BufTy.Contents (Elt F) arg13.view.ty) (f14 : BufTy.Contents (Elt F) arg14.view.ty) (w13 w14 : FVec F S256x16 .f32)
    (d1 : Vec F S1 .i32) (d2 : Vec F S256x2048 .f32) (d3 : Vec F S256x2048 .bf16) (d4 : Vec F S256x2048 .i8) (d5 : Vec F S16x256 .f32) (d6 : Vec F S256x2048 .i8) (d7 : Vec F S16x256 .f32)
    (h19 : v19 = k0_pay221 (stepOf d1)) (h22 : v22 = k0_pay222 (stepOf d1)) (e2 : View.read (Elt F) arg2.view f2 = d2) (e3 : View.read (Elt F) arg3.view f3 = d3)
    (e4 : View.read (Elt F) arg4.view f4 = d4) (e6 : View.read (Elt F) arg6.view f6 = d6) (h13 : w13 = k0_pay223 d5) (h14 : w14 = k0_pay224 d7) (n : ℕ) (hn : n = 8)
    (f9 : BufTy.Contents (Elt F) arg9.view.ty) :
    View.read (Elt F) arg9.view (arg9.view.writes (Elt F) f9 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 f2 f3 f4 f6 (arg13.view.writes (Elt F) f13 [⟨Rect.unit ![0, 0] S256x16.size inb_S256x128_S256x16_0_0, w13⟩]) (arg14.view.writes (Elt F) f14 [⟨Rect.unit ![0, 0] S256x16.size inb_S256x128_S256x16_0_0, w14⟩]) n).2.1) = outMCodes d3 d4 d5 := by
  subst hn h19 h22 h13 h14
  rw [pb_eq _ _ _ _ _ _ _ _ _ _ _ _ _ _ _ _ _ _ _ _ _ _ _ _ _ _ _ _ _ _ _ _ _ _ _ _ _ _ _ _ _ _ _ _ 8 (le_refl 8)]
  refine read_tile _ _ _ _ fun k j => ?_
  show (⟨blockRect _ (row_inb k j), k0_pay15 (k0_pay6 (View.readAt (Elt F) arg3.view (blockRect ![32 * k.val, 128 * j.val] (row_inb k j)).toLoadRect f3) (View.readAt (Elt F) arg4.view (blockRect ![32 * k.val, 128 * j.val] (row_inb k j)).toLoadRect f4) (View.readAt (Elt F) arg13.view (colRect ![32 * k.val, j.val] (col_inb k j)).toLoadRect (arg13.view.writes (Elt F) f13 [⟨Rect.unit ![0, 0] S256x16.size inb_S256x128_S256x16_0_0, k0_pay223 d5⟩]))) (k0_pay11 (View.readAt (Elt F) arg3.view (blockRect ![32 * k.val, 128 * j.val] (row_inb k j)).toLoadRect f3) (View.readAt (Elt F) arg4.view (blockRect ![32 * k.val, 128 * j.val] (row_inb k j)).toLoadRect f4) (View.readAt (Elt F) arg13.view (colRect ![32 * k.val, j.val] (col_inb k j)).toLoadRect (arg13.view.writes (Elt F) f13 [⟨Rect.unit ![0, 0] S256x16.size inb_S256x128_S256x16_0_0, k0_pay223 d5⟩])))⟩ : View.Piece (Elt F) S256x2048 .i8) = _
  rw [load_block _ _ _ e3, load_block _ _ _ e4, load_col]
  rfl

set_option maxHeartbeats 2000000 in
theorem read_11 (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32)
    (f2 : BufTy.Contents (Elt F) arg2.view.ty) (f3 : BufTy.Contents (Elt F) arg3.view.ty) (f4 : BufTy.Contents (Elt F) arg4.view.ty) (f6 : BufTy.Contents (Elt F) arg6.view.ty)
    (f13 : BufTy.Contents (Elt F) arg13.view.ty) (f14 : BufTy.Contents (Elt F) arg14.view.ty) (w13 w14 : FVec F S256x16 .f32)
    (d1 : Vec F S1 .i32) (d2 : Vec F S256x2048 .f32) (d3 : Vec F S256x2048 .bf16) (d4 : Vec F S256x2048 .i8) (d5 : Vec F S16x256 .f32) (d6 : Vec F S256x2048 .i8) (d7 : Vec F S16x256 .f32)
    (h19 : v19 = k0_pay221 (stepOf d1)) (h22 : v22 = k0_pay222 (stepOf d1)) (e2 : View.read (Elt F) arg2.view f2 = d2) (e3 : View.read (Elt F) arg3.view f3 = d3)
    (e4 : View.read (Elt F) arg4.view f4 = d4) (e6 : View.read (Elt F) arg6.view f6 = d6) (h13 : w13 = k0_pay223 d5) (h14 : w14 = k0_pay224 d7) (n : ℕ) (hn : n = 8)
    (f11 : BufTy.Contents (Elt F) arg11.view.ty) :
    View.read (Elt F) arg11.view (arg11.view.writes (Elt F) f11 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 f2 f3 f4 f6 (arg13.view.writes (Elt F) f13 [⟨Rect.unit ![0, 0] S256x16.size inb_S256x128_S256x16_0_0, w13⟩]) (arg14.view.writes (Elt F) f14 [⟨Rect.unit ![0, 0] S256x16.size inb_S256x128_S256x16_0_0, w14⟩]) n).2.2.1) = outVCodes d3 d6 d7 := by
  subst hn h19 h22 h13 h14
  rw [pb_eq _ _ _ _ _ _ _ _ _ _ _ _ _ _ _ _ _ _ _ _ _ _ _ _ _ _ _ _ _ _ _ _ _ _ _ _ _ _ _ _ _ _ _ _ 8 (le_refl 8)]
  refine read_tile _ _ _ _ fun k j => ?_
  show (⟨blockRect _ (row_inb k j), k0_pay16 (k0_pay8 (View.readAt (Elt F) arg3.view (blockRect ![32 * k.val, 128 * j.val] (row_inb k j)).toLoadRect f3) (View.readAt (Elt F) arg6.view (blockRect ![32 * k.val, 128 * j.val] (row_inb k j)).toLoadRect f6) (View.readAt (Elt F) arg14.view (colRect ![32 * k.val, j.val] (col_inb k j)).toLoadRect (arg14.view.writes (Elt F) f14 [⟨Rect.unit ![0, 0] S256x16.size inb_S256x128_S256x16_0_0, k0_pay224 d7⟩]))) (k0_pay9 (View.readAt (Elt F) arg3.view (blockRect ![32 * k.val, 128 * j.val] (row_inb k j)).toLoadRect f3) (View.readAt (Elt F) arg6.view (blockRect ![32 * k.val, 128 * j.val] (row_inb k j)).toLoadRect f6) (View.readAt (Elt F) arg14.view (colRect ![32 * k.val, j.val] (col_inb k j)).toLoadRect (arg14.view.writes (Elt F) f14 [⟨Rect.unit ![0, 0] S256x16.size inb_S256x128_S256x16_0_0, k0_pay224 d7⟩])))⟩ : View.Piece (Elt F) S256x2048 .i8) = _
  rw [load_block _ _ _ e3, load_block _ _ _ e6, load_col]
  rfl

set_option maxHeartbeats 2000000 in
theorem read_10 (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32)
    (f2 : BufTy.Contents (Elt F) arg2.view.ty) (f3 : BufTy.Contents (Elt F) arg3.view.ty) (f4 : BufTy.Contents (Elt F) arg4.view.ty) (f6 : BufTy.Contents (Elt F) arg6.view.ty)
    (f13 : BufTy.Contents (Elt F) arg13.view.ty) (f14 : BufTy.Contents (Elt F) arg14.view.ty) (w13 w14 : FVec F S256x16 .f32)
    (d1 : Vec F S1 .i32) (d2 : Vec F S256x2048 .f32) (d3 : Vec F S256x2048 .bf16) (d4 : Vec F S256x2048 .i8) (d5 : Vec F S16x256 .f32) (d6 : Vec F S256x2048 .i8) (d7 : Vec F S16x256 .f32)
    (h19 : v19 = k0_pay221 (stepOf d1)) (h22 : v22 = k0_pay222 (stepOf d1)) (e2 : View.read (Elt F) arg2.view f2 = d2) (e3 : View.read (Elt F) arg3.view f3 = d3)
    (e4 : View.read (Elt F) arg4.view f4 = d4) (e6 : View.read (Elt F) arg6.view f6 = d6) (h13 : w13 = k0_pay223 d5) (h14 : w14 = k0_pay224 d7) (n : ℕ) (hn : n = 8)
    (f15 : BufTy.Contents (Elt F) arg15.view.ty) :
    k0_pay3 (View.readAt (Elt F) arg15.view (Rect.unit ![0, 0] S256x128.size inb_S256x128_S256x128_0_0).toLoadRect
      (arg15.view.writes (Elt F) f15 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 f2 f3 f4 f6 (arg13.view.writes (Elt F) f13 [⟨Rect.unit ![0, 0] S256x16.size inb_S256x128_S256x16_0_0, w13⟩]) (arg14.view.writes (Elt F) f14 [⟨Rect.unit ![0, 0] S256x16.size inb_S256x128_S256x16_0_0, w14⟩]) n).2.2.2.1)) = outMScale d3 d4 d5 := by
  subst hn h19 h22 h13 h14
  rw [pb_eq _ _ _ _ _ _ _ _ _ _ _ _ _ _ _ _ _ _ _ _ _ _ _ _ _ _ _ _ _ _ _ _ _ _ _ _ _ _ _ _ _ _ _ _ 8 (le_refl 8)]
  refine pay3_congr _ _ fun y hy => ?_
  rw [load_whole _ _ _ rfl zero2]
  refine read_cols _ _ _ _ (fun k j => ?_) y hy
  show (⟨colRect _ (col_inb k j), k0_pay13 (k0_pay11 (View.readAt (Elt F) arg3.view (blockRect ![32 * k.val, 128 * j.val] (row_inb k j)).toLoadRect f3) (View.readAt (Elt F) arg4.view (blockRect ![32 * k.val, 128 * j.val] (row_inb k j)).toLoadRect f4) (View.readAt (Elt F) arg13.view (colRect ![32 * k.val, j.val] (col_inb k j)).toLoadRect (arg13.view.writes (Elt F) f13 [⟨Rect.unit ![0, 0] S256x16.size inb_S256x128_S256x16_0_0, k0_pay223 d5⟩])))⟩ : View.Piece (Elt F) S256x128 .f32) = _
  rw [load_block _ _ _ e3, load_block _ _ _ e4, load_col]
  rfl

set_option maxHeartbeats 2000000 in
theorem read_12 (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (v19 : FVec F S1x8x128 .f32) (v22 : FVec F S1x8x128 .f32)
    (f2 : BufTy.Contents (Elt F) arg2.view.ty) (f3 : BufTy.Contents (Elt F) arg3.view.ty) (f4 : BufTy.Contents (Elt F) arg4.view.ty) (f6 : BufTy.Contents (Elt F) arg6.view.ty)
    (f13 : BufTy.Contents (Elt F) arg13.view.ty) (f14 : BufTy.Contents (Elt F) arg14.view.ty) (w13 w14 : FVec F S256x16 .f32)
    (d1 : Vec F S1 .i32) (d2 : Vec F S256x2048 .f32) (d3 : Vec F S256x2048 .bf16) (d4 : Vec F S256x2048 .i8) (d5 : Vec F S16x256 .f32) (d6 : Vec F S256x2048 .i8) (d7 : Vec F S16x256 .f32)
    (h19 : v19 = k0_pay221 (stepOf d1)) (h22 : v22 = k0_pay222 (stepOf d1)) (e2 : View.read (Elt F) arg2.view f2 = d2) (e3 : View.read (Elt F) arg3.view f3 = d3)
    (e4 : View.read (Elt F) arg4.view f4 = d4) (e6 : View.read (Elt F) arg6.view f6 = d6) (h13 : w13 = k0_pay223 d5) (h14 : w14 = k0_pay224 d7) (n : ℕ) (hn : n = 8)
    (f16 : BufTy.Contents (Elt F) arg16.view.ty) :
    k0_pay4 (View.readAt (Elt F) arg16.view (Rect.unit ![0, 0] S256x128.size inb_S256x128_S256x128_0_0).toLoadRect
      (arg16.view.writes (Elt F) f16 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v19 v22 f2 f3 f4 f6 (arg13.view.writes (Elt F) f13 [⟨Rect.unit ![0, 0] S256x16.size inb_S256x128_S256x16_0_0, w13⟩]) (arg14.view.writes (Elt F) f14 [⟨Rect.unit ![0, 0] S256x16.size inb_S256x128_S256x16_0_0, w14⟩]) n).2.2.2.2)) = outVScale d3 d6 d7 := by
  subst hn h19 h22 h13 h14
  rw [pb_eq _ _ _ _ _ _ _ _ _ _ _ _ _ _ _ _ _ _ _ _ _ _ _ _ _ _ _ _ _ _ _ _ _ _ _ _ _ _ _ _ _ _ _ _ 8 (le_refl 8)]
  refine pay4_congr _ _ fun y hy => ?_
  rw [load_whole _ _ _ rfl zero2]
  refine read_cols _ _ _ _ (fun k j => ?_) y hy
  show (⟨colRect _ (col_inb k j), k0_pay14 (k0_pay8 (View.readAt (Elt F) arg3.view (blockRect ![32 * k.val, 128 * j.val] (row_inb k j)).toLoadRect f3) (View.readAt (Elt F) arg6.view (blockRect ![32 * k.val, 128 * j.val] (row_inb k j)).toLoadRect f6) (View.readAt (Elt F) arg14.view (colRect ![32 * k.val, j.val] (col_inb k j)).toLoadRect (arg14.view.writes (Elt F) f14 [⟨Rect.unit ![0, 0] S256x16.size inb_S256x128_S256x16_0_0, k0_pay224 d7⟩])))⟩ : View.Piece (Elt F) S256x128 .f32) = _
  rw [load_block _ _ _ e3, load_block _ _ _ e6, load_col]
  rfl

/-! ## The body, run once -/

set_option maxHeartbeats 4000000 in
/-- From the seven inputs held at their contents, the five outputs and the four scratches at anything, the kernel runs to
    its return and hands back the inputs as they were, the outputs at what it computes, the scratches at some contents. -/
theorem kernelRun (c : Dev nD) (i : grid0.Coords) (arg1 : Memref sig .tc .smem S1 .i32) (harg1 : arg1.IsWhole) (arg2 : Memref sig .tc .vmem S256x2048 .f32) (harg2 : arg2.IsWhole) (arg3 : Memref sig .tc .vmem S256x2048 .bf16) (harg3 : arg3.IsWhole) (arg4 : Memref sig .tc .vmem S256x2048 .i8) (harg4 : arg4.IsWhole) (arg5 : Memref sig .tc .vmem S16x256 .f32) (harg5 : arg5.IsWhole) (arg6 : Memref sig .tc .vmem S256x2048 .i8) (harg6 : arg6.IsWhole) (arg7 : Memref sig .tc .vmem S16x256 .f32) (harg7 : arg7.IsWhole) (arg8 : Memref sig .tc .vmem S256x2048 .f32) (harg8 : arg8.IsWhole) (arg9 : Memref sig .tc .vmem S256x2048 .i8) (harg9 : arg9.IsWhole) (arg10 : Memref sig .tc .vmem S16x256 .f32) (harg10 : arg10.IsWhole) (arg11 : Memref sig .tc .vmem S256x2048 .i8) (harg11 : arg11.IsWhole) (arg12 : Memref sig .tc .vmem S16x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole)
    (d1 : Vec F S1 .i32) (d2 : Vec F S256x2048 .f32) (d3 : Vec F S256x2048 .bf16) (d4 : Vec F S256x2048 .i8) (d5 : Vec F S16x256 .f32) (d6 : Vec F S256x2048 .i8) (d7 : Vec F S16x256 .f32) (K : PUnit → sProp 𝕄) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ owns (c : Thread nD τ) arg8 fullShare (outDelta d1 d2 d3 d4 d5 d6 d7) ∗ owns (c : Thread nD τ) arg9 fullShare (outMCodes d3 d4 d5) ∗ owns (c : Thread nD τ) arg10 fullShare (outMScale d3 d4 d5) ∗ owns (c : Thread nD τ) arg11 fullShare (outVCodes d3 d6 d7) ∗ owns (c : Thread nD τ) arg12 fullShare (outVScale d3 d6 d7) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) Set.univ
          (cc0_adamw8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_adamw8_eq_skeleton]; unfold cc0_adamw8_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec_parts
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro
    exact read_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f2 f3 f4 f6 f13 f14 _ _ d1 d2 d3 d4 d5 d6 d7 (congrArg k0_pay221 (load_step _ _ _ e1 _ _)) (congrArg k0_pay222 (load_step _ _ _ e1 _ _)) e2 e3 e4 e6 (congrArg k0_pay223 (load_whole _ _ _ e5 zero2 _)) (congrArg k0_pay224 (load_whole _ _ _ e7 zero2 _)) _ trips_eq _
  isplitl [H9]
  · iexists _; isplitr; swap; · iexact H9
    ipureintro
    exact read_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f2 f3 f4 f6 f13 f14 _ _ d1 d2 d3 d4 d5 d6 d7 (congrArg k0_pay221 (load_step _ _ _ e1 _ _)) (congrArg k0_pay222 (load_step _ _ _ e1 _ _)) e2 e3 e4 e6 (congrArg k0_pay223 (load_whole _ _ _ e5 zero2 _)) (congrArg k0_pay224 (load_whole _ _ _ e7 zero2 _)) _ trips_eq _
  isplitl [H10]
  · iexists _; isplitr; swap; · iexact H10
    ipureintro
    exact (read_whole _ _ _ zero2 _).trans (read_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f2 f3 f4 f6 f13 f14 _ _ d1 d2 d3 d4 d5 d6 d7 (congrArg k0_pay221 (load_step _ _ _ e1 _ _)) (congrArg k0_pay222 (load_step _ _ _ e1 _ _)) e2 e3 e4 e6 (congrArg k0_pay223 (load_whole _ _ _ e5 zero2 _)) (congrArg k0_pay224 (load_whole _ _ _ e7 zero2 _)) _ trips_eq _)
  isplitl [H11]
  · iexists _; isplitr; swap; · iexact H11
    ipureintro
    exact read_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f2 f3 f4 f6 f13 f14 _ _ d1 d2 d3 d4 d5 d6 d7 (congrArg k0_pay221 (load_step _ _ _ e1 _ _)) (congrArg k0_pay222 (load_step _ _ _ e1 _ _)) e2 e3 e4 e6 (congrArg k0_pay223 (load_whole _ _ _ e5 zero2 _)) (congrArg k0_pay224 (load_whole _ _ _ e7 zero2 _)) _ trips_eq _
  isplitl [H12]
  · iexists _; isplitr; swap; · iexact H12
    ipureintro
    exact (read_whole _ _ _ zero2 _).trans (read_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f2 f3 f4 f6 f13 f14 _ _ d1 d2 d3 d4 d5 d6 d7 (congrArg k0_pay221 (load_step _ _ _ e1 _ _)) (congrArg k0_pay222 (load_step _ _ _ e1 _ _)) e2 e3 e4 e6 (congrArg k0_pay223 (load_whole _ _ _ e5 zero2 _)) (congrArg k0_pay224 (load_whole _ _ _ e7 zero2 _)) _ trips_eq _)
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

end Cert.KernelIdeal.Exact

end
-- ==== Proof.Run.lean ====
/-
  The whole run of `KernelIdeal`: every execution ends, the arguments are as they were, the counters are at zero, and every
  window's array holds what the blocks written to it spell (Proof/Body.lean names one block of each).
-/
module

public import proofs.«01_k».proof.Proof.Body

@[expose] public section

noncomputable section

namespace Cert.KernelIdeal.Exact

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data and the body obligation -/

/-- The proof data on core `c`: every window's array as the region finds it; an input's block left in place, an output's
    what the body computes of the input blocks; the scratches
    and the generator register at anything between points; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => outDelta (iblk m c 0 t) (iblk m c 1 t) (iblk m c 2 t) (iblk m c 3 t) (iblk m c 4 t) (iblk m c 5 t) (iblk m c 6 t)
    | 8 => outMCodes (iblk m c 2 t) (iblk m c 3 t) (iblk m c 4 t)
    | 9 => outMScale (iblk m c 2 t) (iblk m c 3 t) (iblk m c 4 t)
    | 10 => outVCodes (iblk m c 2 t) (iblk m c 5 t) (iblk m c 6 t)
    | 11 => outVScale (iblk m c 2 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d

/-- What the body is called with at point `t`, and what it returns: each input's staging memref at its block;
    each output's comes at anything and returns at its value. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (outDelta (iblk m c 0 t) (iblk m c 1 t) (iblk m c 2 t) (iblk m c 3 t) (iblk m c 4 t) (iblk m c 5 t) (iblk m c 6 t))
    ∗ owns (c : Thread nD τ) (win0_8.stage (cfg0.slots t 8)) fullShare (outMCodes (iblk m c 2 t) (iblk m c 3 t) (iblk m c 4 t))
    ∗ owns (c : Thread nD τ) (win0_9.stage (cfg0.slots t 9)) fullShare (outMScale (iblk m c 2 t) (iblk m c 3 t) (iblk m c 4 t))
    ∗ owns (c : Thread nD τ) (win0_10.stage (cfg0.slots t 10)) fullShare (outVCodes (iblk m c 2 t) (iblk m c 5 t) (iblk m c 6 t))
    ∗ owns (c : Thread nD τ) (win0_11.stage (cfg0.slots t 11)) fullShare (outVScale (iblk m c 2 t) (iblk m c 5 t) (iblk m c 6 t)))

/-- The invariant between points: the four scratches owned at some contents, the generator register at some state. -/
theorem Phi0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi0_eq]
  simp only [before_0, before_1, before_2, before_3, before_4, before_5, before_6]
  iintro ⟨⟨⟨HS0, HS1, HS2, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (kernelRun c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, H10, H11, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- From any memory with zero counters: every execution ends, every window's array holds its written blocks, every other buffer
    what the host lines after the region leave in it, and every semaphore counter is at zero. -/
theorem run_main :
    θ_run defs (onTc (τ := τ) (main (F := F))) (s₀ m ρ) (fun r =>
      Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

end Cert.KernelIdeal.Exact

end
-- ==== Proof.Scalar.lean ====
/-
  One element of the update, as a function of extended reals: what the kernel computes of it and what the reference
  computes of it, in each one's own order of operations.
-/
module

public import Idealize.ShloMosaic.PureOps.Ideal

@[expose] public section

noncomputable section

namespace Cert.Scalar

open Idealize.ShloMosaic

/-- The smallest magnitude the kernel tells from zero, as a real number. -/
def tiny : ℝ := 11150373 / 2 ^ 143
/-- The value of a code. -/
def code (b : BitVec 8) : EReal := ((b.toInt : ℝ) : EReal)
/-- The value of the step number. -/
def step (t : BitVec 32) : EReal := ((t.toInt : ℝ) : EReal)
/-- The column of lane `L` of block `J`. -/
def col (J : Fin 16) (L : Fin 128) : Fin 2048 := ⟨128 * J.val + L.val, by omega⟩
/-- The largest of the lanes' values. -/
def top (f : Fin 128 → EReal) : EReal := Finset.univ.fold max ⊥ f

/-! ## The kernel -/

/-- Ten times the new first moment. -/
def kM (c s g : EReal) : EReal := c * (s * ((9 : ℝ) : EReal)) + g
/-- A thousand times the new second moment. -/
def kV (c s g : EReal) : EReal :=
  c * (s * ((Real.sqrt 999 : ℝ) : EReal)) * (c * (s * ((Real.sqrt 999 : ℝ) : EReal))) + g * g
def kPos (v : EReal) : EReal := max v (tiny : EReal)
def kRoot (v : EReal) : EReal := v * Ideal.rsqrt (kPos v)
def kUnit (t : EReal) : EReal := (1 - Ideal.exp (t * ((Real.log (9 / 10) : ℝ) : EReal))) * ((-10000 : ℝ) : EReal)
def kMul (t : EReal) : EReal :=
  kUnit t * Ideal.sqrt (Ideal.div ((1 / 1000 : ℝ) : EReal) (1 - Ideal.exp (t * ((Real.log (999 / 1000) : ℝ) : EReal))))
def kAdd (t : EReal) : EReal := kUnit t * ((1 / 10 ^ 8 : ℝ) : EReal)
def kDelta (t m v p : EReal) : EReal :=
  Ideal.div m (kRoot v * kMul t + kAdd t) - ((1 / 100000 : ℝ) : EReal) * p
def clampRound (x : EReal) : EReal :=
  min ((127 : ℝ) : EReal) (max ((-127 : ℝ) : EReal) (Ideal.liftRound Ideal.roundHalfEven x))
def kMCode (m a : EReal) : EReal := clampRound (m * Ideal.div ((127 : ℝ) : EReal) (max a (tiny : EReal)))
def kVCode (v b : EReal) : EReal := clampRound (kRoot v * (((127 : ℝ) : EReal) * Ideal.rsqrt b))
def kMScale (a : EReal) : EReal := if a = 0 then 1 else a * ((1 / 1270 : ℝ) : EReal)
def kVScale (b : EReal) : EReal := if b ≤ (tiny : EReal) then 1 else Ideal.sqrt b * (((127 * Real.sqrt 1000)⁻¹ : ℝ) : EReal)

/-! ## The reference -/

/-- The new first moment. -/
def rM (c s g : EReal) : EReal := ((9 / 10 : ℝ) : EReal) * (c * s) + ((1 / 10 : ℝ) : EReal) * g
/-- The new second moment. -/
def rV (c s g : EReal) : EReal := ((999 / 1000 : ℝ) : EReal) * (c * s * (c * s)) + ((1 / 1000 : ℝ) : EReal) * (g * g)
def rDelta (t m v p : EReal) : EReal :=
  (-((1 / 1000 : ℝ) : EReal)) * (Ideal.div (Ideal.div m (1 - Ideal.pow ((9 / 10 : ℝ) : EReal) t))
      (Ideal.sqrt (Ideal.div v (1 - Ideal.pow ((999 / 1000 : ℝ) : EReal) t)) + ((1 / 10 ^ 8 : ℝ) : EReal))
    + ((1 / 100 : ℝ) : EReal) * p)
def rScale (a : EReal) : EReal := if a = 0 then 1 else Ideal.div a ((127 : ℝ) : EReal)
def rCode (x s : EReal) : EReal := clampRound (Ideal.div x s)

/-! ## A row -/

section Row
variable (g : Fin 2048 → EReal) (c : Fin 2048 → BitVec 8) (s : Fin 16 → EReal) (J : Fin 16) (L : Fin 128)

def rowKM : EReal := kM (code (c (col J L))) (s J) (g (col J L))
def rowKV : EReal := kV (code (c (col J L))) (s J) (g (col J L))
def rowRM : EReal := rM (code (c (col J L))) (s J) (g (col J L))
def rowRV : EReal := rV (code (c (col J L))) (s J) (g (col J L))
/-- The largest magnitude of a block of the kernel's first moment. -/
def topKM : EReal := top fun l => max (rowKM g c s J l) (-rowKM g c s J l)
/-- The largest of a block of the kernel's second moment, kept away from zero. -/
def topKV : EReal := top fun l => kPos (rowKV g c s J l)
def topRM : EReal := top fun l => max (rowRM g c s J l) (-rowRM g c s J l)
def topRV : EReal := top fun l => max (Ideal.sqrt (rowRV g c s J l)) (-Ideal.sqrt (rowRV g c s J l))

end Row

end Cert.Scalar

end
-- ==== Proof.Consts.lean ====
/-
  The printed constants as extended reals: the literal words, and the named constants of the kernel.
-/
module

public import proofs.«01_k».proof.KernelIdeal
public import Idealize.ShloMosaic.PureOps.IdealRules
public import proofs.«01_k».proof.Proof.Scalar

@[expose] public section

noncomputable section

namespace Cert.Scalar

open Idealize.ShloMosaic

theorem w_127 : Ideal.ofBits .f32 0x42FE0000#32 = ((127 : ℝ) : EReal) := by
  simp [Ideal.ofBits, Ideal.ieee, -EReal.coe_mul]; norm_num
theorem w_neg127 : Ideal.ofBits .f32 0xC2FE0000#32 = ((-127 : ℝ) : EReal) := by
  simp [Ideal.ofBits, Ideal.ieee, -EReal.coe_mul]; norm_num
theorem w_tiny : Ideal.ofBits .f32 0x03AA2425#32 = ((tiny : ℝ) : EReal) := by
  simp [Ideal.ofBits, Ideal.ieee, tiny, -EReal.coe_mul]; norm_num
theorem w_neg10000 : Ideal.ofBits .f32 0xC61C4000#32 = ((-10000 : ℝ) : EReal) := by
  simp [Ideal.ofBits, Ideal.ieee, -EReal.coe_mul]; norm_num
theorem w_bot : Ideal.ofBits .f32 0xFF800000#32 = ⊥ := by
  simp [Ideal.ofBits, Ideal.ieee]
theorem w_top : Ideal.ofBits .f32 0x7F800000#32 = ⊤ := by
  simp [Ideal.ofBits, Ideal.ieee]
theorem w_one : Ideal.ofBits .f32 0x3F800000#32 = 1 := by
  have : Ideal.ofBits .f32 0x3F800000#32 = ((1 : ℝ) : EReal) := by
    simp [Ideal.ofBits, Ideal.ieee, -EReal.coe_mul]; norm_num
  exact this
theorem w_9 : Ideal.ofBits .f32 0x41100000#32 = ((9 : ℝ) : EReal) := by
  simp [Ideal.ofBits, Ideal.ieee, -EReal.coe_mul]; norm_num
theorem w_10 : Ideal.ofBits .f32 0x41200000#32 = ((10 : ℝ) : EReal) := by
  simp [Ideal.ofBits, Ideal.ieee, -EReal.coe_mul]; norm_num
theorem w_999 : Ideal.ofBits .f32 0x4479C000#32 = ((999 : ℝ) : EReal) := by
  simp [Ideal.ofBits, Ideal.ieee, -EReal.coe_mul]; norm_num
theorem w_1000 : Ideal.ofBits .f32 0x447A0000#32 = ((1000 : ℝ) : EReal) := by
  simp [Ideal.ofBits, Ideal.ieee, -EReal.coe_mul]; norm_num
theorem w_1e8 : Ideal.ofBits .f32 0x4CBEBC20#32 = ((10 ^ 8 : ℝ) : EReal) := by
  simp [Ideal.ofBits, Ideal.ieee, -EReal.coe_mul, -EReal.coe_pow]; norm_num
theorem w_100 : Ideal.ofBits .f32 0x42C80000#32 = ((100 : ℝ) : EReal) := by
  simp [Ideal.ofBits, Ideal.ieee, -EReal.coe_mul]; norm_num

open Cert.KernelIdeal

theorem n_log_beta1 : Named.named (F := Ideal) κ "log_beta1" (φ := .f32) 0xBDD7C741#32 = ((Real.log (9 / 10) : ℝ) : EReal) :=
  IdealRules.named_const.ideal_named_scalar _ _ _ _ rfl
theorem n_log_beta2 : Named.named (F := Ideal) κ "log_beta2" (φ := .f32) 0xBA832338#32 = ((Real.log (999 / 1000) : ℝ) : EReal) :=
  IdealRules.named_const.ideal_named_scalar _ _ _ _ rfl
theorem n_v_unit : Named.named (F := Ideal) κ "v_unit" (φ := .f32) 0x3A83126F#32 = ((1 / 1000 : ℝ) : EReal) :=
  IdealRules.named_const.ideal_named_scalar _ _ _ _ rfl
theorem n_eps : Named.named (F := Ideal) κ "eps" (φ := .f32) 0x322BCC77#32 = ((1 / 10 ^ 8 : ℝ) : EReal) :=
  (IdealRules.named_const.ideal_named_scalar _ _ _ _ rfl).trans (congrArg Real.toEReal (by norm_num : (1 / 100000000 : ℝ) = 1 / 10 ^ 8))
theorem n_v_ratio : Named.named (F := Ideal) κ "v_ratio" (φ := .f32) 0x41FCDB0F#32 = ((Real.sqrt 999 : ℝ) : EReal) :=
  IdealRules.named_const.ideal_named_scalar _ _ _ _ rfl
theorem n_lr_wd : Named.named (F := Ideal) κ "lr_wd" (φ := .f32) 0x3727C5AC#32 = ((1 / 100000 : ℝ) : EReal) :=
  IdealRules.named_const.ideal_named_scalar _ _ _ _ rfl
theorem n_m_back : Named.named (F := Ideal) κ "m_back" (φ := .f32) 0x3A4E69A0#32 = ((1 / 1270 : ℝ) : EReal) :=
  IdealRules.named_const.ideal_named_scalar _ _ _ _ rfl
theorem n_v_back : Named.named (F := Ideal) κ "v_back" (φ := .f32) 0x39828BFA#32 = (((127 * Real.sqrt 1000)⁻¹ : ℝ) : EReal) :=
  IdealRules.named_const.ideal_named_scalar _ _ _ _ rfl

end Cert.Scalar

end
-- ==== Proof.KernelValue.lean ====
/-
  What one grid point of `KernelIdeal` computes, read at an index: each element of its five results is the element
  function of Proof/Scalar.lean, of one row of the point's inputs.
-/
module

public import proofs.«01_k».proof.Proof.Tile
public import proofs.«01_k».proof.Proof.Consts
public import Idealize.ShloMosaic.Lib.Pointwise
public import Idealize.ShloMosaic.Lib.Pipeline.ValueKit

@[expose] public section

noncomputable section

namespace Cert.KernelIdeal.Hand

open Cert.KernelIdeal Cert.KernelIdeal.Gen Cert.Scalar
open Idealize.ShloMosaic

/-! ## The inputs of a block -/

section Reads
variable (k : Fin 8) (a : Fin 32) (r : Fin 256) (hr : r.val = 32 * k.val + a.val) (J : Fin 16) (L : Fin 128)

include hr in
/-- A block of a tile, at an index. -/
theorem blockLd_apply {e : EltTy} (d : Vec Ideal S256x2048 e) : blockLd d k J (ix2 a L) = d (ix2 r (col J L)) :=
  congrArg d (funext fun x => by
    revert x
    exact Fin.forall_fin_two.mpr ⟨Fin.ext (by show 32 * k.val + 1 * a.val = r.val; omega),
      Fin.ext (by show 128 * J.val + 1 * L.val = 128 * J.val + L.val; omega)⟩)

include hr in
/-- A column of a scratch, at an index. -/
theorem colLd_apply (w : Vec Ideal S256x16 .f32) (b : Fin 1) : colLd w k J (ix2 a b) = w (ix2 r J) :=
  congrArg w (funext fun x => by
    revert x
    exact Fin.forall_fin_two.mpr ⟨Fin.ext (by show 32 * k.val + a.val = r.val; omega), rfl⟩)

end Reads

/-! ## The two scales of a row, as the scratches hold them -/

theorem pay223_apply (d5 : Vec Ideal S16x256 .f32) (r : Fin 256) (J : Fin 16) :
    k0_pay223 d5 (ix2 r J) = d5 (ix2 J r) * ((9 : ℝ) : EReal) := by
  pointwise [k0_pay223]
  rw [w_9]

theorem pay224_apply (d7 : Vec Ideal S16x256 .f32) (r : Fin 256) (J : Fin 16) :
    k0_pay224 d7 (ix2 r J) = d7 (ix2 J r) * ((Real.sqrt 999 : ℝ) : EReal) := by
  pointwise [k0_pay224]
  rw [n_v_ratio]

/-! ## The step's factors -/

theorem pay221_apply (t : Elt Ideal .i32) (a : Fin 8) (L : Fin 128) : k0_pay221 (F := Ideal) t (ix3 0 a L) = kMul (step t) := by
  pointwise [k0_pay221, k0_pay220, k0_pay219]
  rw [n_log_beta1, n_log_beta2, n_v_unit, w_neg10000]
  rfl

theorem pay222_apply (t : Elt Ideal .i32) (a : Fin 8) (L : Fin 128) : k0_pay222 (F := Ideal) t (ix3 0 a L) = kAdd (step t) := by
  pointwise [k0_pay222, k0_pay220, k0_pay219]
  rw [n_log_beta1, n_eps, w_neg10000]
  rfl

/-! ## A block's payloads, at an index -/

section Payloads
variable (g : Vec Ideal S32x128 .bf16) (mc : Vec Ideal S32x128 .i8) (s : Vec Ideal S32x1 .f32) (a : Fin 32) (L : Fin 128)

theorem pay6_apply : k0_pay6 g mc s (ix2 a L) = code (mc (ix2 a L)) * s (ix2 a 0) + g (ix2 a L) := by
  pointwise [k0_pay6, k0_pay5]
  rfl

theorem pay7_apply : k0_pay7 g mc s (ix2 a L)
    = code (mc (ix2 a L)) * s (ix2 a 0) * (code (mc (ix2 a L)) * s (ix2 a 0)) + g (ix2 a L) * g (ix2 a L) := by
  pointwise [k0_pay7, k0_pay5]
  rfl

theorem pay8_apply : k0_pay8 g mc s (ix2 a L) = kPos (k0_pay7 g mc s (ix2 a L)) := by
  pointwise [k0_pay8]
  rw [w_tiny]
  rfl

theorem pay9_apply : k0_pay9 g mc s (ix2 a L) = kRoot (k0_pay7 g mc s (ix2 a L)) := by
  pointwise [k0_pay9]
  rw [pay8_apply]
  rfl

theorem pay11_apply (b : Fin 1) : k0_pay11 g mc s (ix2 a b)
    = top fun l => max (k0_pay6 g mc s (ix2 a l)) (-k0_pay6 g mc s (ix2 a l)) := by
  pointwise [k0_pay11]
  rw [w_bot]
  rfl

theorem pay14_apply (v : FVec Ideal S32x128 .f32) (b : Fin 1) : k0_pay14 v (ix2 a b) = top fun l => v (ix2 a l) := by
  pointwise [k0_pay14, k0_pay12]
  rw [w_bot]
  rfl

theorem pay13_apply (v : FVec Ideal S32x1 .f32) (b : Fin 1) : k0_pay13 v (ix2 a b) = v (ix2 a b) := by
  pointwise [k0_pay13]

theorem pay15_apply (v : FVec Ideal S32x128 .f32) (w : FVec Ideal S32x1 .f32) :
    k0_pay15 v w (ix2 a L) = Ideal.fptosi 8 (kMCode (v (ix2 a L)) (w (ix2 a 0))) := by
  pointwise [k0_pay15]
  rw [w_127, w_neg127, w_tiny]
  rfl

theorem pay16_apply (v u : FVec Ideal S32x128 .f32) : k0_pay16 v u (ix2 a L)
    = Ideal.fptosi 8 (clampRound (u (ix2 a L) * (((127 : ℝ) : EReal) * Ideal.rsqrt (top fun l => v (ix2 a l))))) := by
  pointwise [k0_pay16, k0_pay12]
  rw [w_127, w_neg127, w_bot]
  rfl

end Payloads

theorem pay3_apply (v : Vec Ideal S256x128 .f32) (J : Fin 16) (r : Fin 256) :
    k0_pay3 v (ix2 J r) = kMScale (v (ix2 r ⟨J.val, by omega⟩)) := by
  pointwise [k0_pay3]
  rw [n_m_back]
  rfl

theorem pay4_apply (v : Vec Ideal S256x128 .f32) (J : Fin 16) (r : Fin 256) :
    k0_pay4 v (ix2 J r) = kVScale (v (ix2 r ⟨J.val, by omega⟩)) := by
  pointwise [k0_pay4]
  rw [n_v_back, w_tiny]
  rfl

/-! ## The point's results, at an index -/

section Point
variable (d1 : Vec Ideal S1 .i32) (d2 : Vec Ideal S256x2048 .f32) (d3 : Vec Ideal S256x2048 .bf16) (d4 : Vec Ideal S256x2048 .i8)
  (d5 : Vec Ideal S16x256 .f32) (d6 : Vec Ideal S256x2048 .i8) (d7 : Vec Ideal S16x256 .f32) (r : Fin 256) (J : Fin 16) (L : Fin 128)

/-- The block row of a row, and the row in it. -/
theorem rows (r : Fin 256) : ∃ (k : Fin 8) (a : Fin 32), r.val = 32 * k.val + a.val :=
  ⟨⟨r.val / 32, by omega⟩, ⟨r.val % 32, by omega⟩, by show r.val = 32 * (r.val / 32) + r.val % 32; omega⟩

abbrev gRow : Fin 2048 → EReal := fun x => d3 (ix2 r x)
abbrev cRow (d : Vec Ideal S256x2048 .i8) : Fin 2048 → BitVec 8 := fun x => d (ix2 r x)
abbrev sRow (d : Vec Ideal S16x256 .f32) : Fin 16 → EReal := fun j => d (ix2 j r)

section Block
variable (k : Fin 8) (a : Fin 32) (hr : r.val = 32 * k.val + a.val)

include hr in
theorem m_block : k0_pay6 (blockLd d3 k J) (blockLd d4 k J) (colLd (k0_pay223 d5) k J) (ix2 a L)
    = rowKM (gRow d3 r) (cRow r d4) (sRow r d5) J L := by
  rw [pay6_apply, blockLd_apply k a r hr, blockLd_apply k a r hr, colLd_apply k a r hr, pay223_apply]
  rfl

include hr in
theorem v_block : k0_pay7 (blockLd d3 k J) (blockLd d6 k J) (colLd (k0_pay224 d7) k J) (ix2 a L)
    = rowKV (gRow d3 r) (cRow r d6) (sRow r d7) J L := by
  rw [pay7_apply, blockLd_apply k a r hr, blockLd_apply k a r hr, colLd_apply k a r hr, pay224_apply]
  rfl

include hr in
theorem m_top (b : Fin 1) : mMax d3 d4 d5 k J (ix2 a b) = topKM (gRow d3 r) (cRow r d4) (sRow r d5) J := by
  unfold mMax
  rw [pay11_apply]
  simp only [m_block d3 d4 d5 r J _ k a hr]
  rfl

include hr in
theorem v_pos : vPos d3 d6 d7 k J (ix2 a L) = kPos (rowKV (gRow d3 r) (cRow r d6) (sRow r d7) J L) := by
  unfold vPos
  rw [pay8_apply, v_block d3 d6 d7 r J L k a hr]

end Block

theorem outDelta_apply : outDelta d1 d2 d3 d4 d5 d6 d7 (ix2 r (col J L))
    = kDelta (step (d1 (ix1 0))) (rowKM (gRow d3 r) (cRow r d4) (sRow r d5) J L) (rowKV (gRow d3 r) (cRow r d6) (sRow r d7) J L)
        (d2 (ix2 r (col J L))) := by
  obtain ⟨k, a, hr⟩ := rows r
  unfold outDelta
  rw [tile_apply _ k J (ix2 a L) _ hr rfl]
  pointwise [k0_pay10]
  rw [m_block d3 d4 d5 r J L k a hr, pay9_apply, v_block d3 d6 d7 r J L k a hr, pay221_apply, pay222_apply, n_lr_wd,
    blockLd_apply k a r hr]
  rfl

theorem outMCodes_apply : outMCodes d3 d4 d5 (ix2 r (col J L))
    = Ideal.fptosi 8 (kMCode (rowKM (gRow d3 r) (cRow r d4) (sRow r d5) J L) (topKM (gRow d3 r) (cRow r d4) (sRow r d5) J)) := by
  obtain ⟨k, a, hr⟩ := rows r
  unfold outMCodes
  rw [tile_apply _ k J (ix2 a L) _ hr rfl, pay15_apply, m_top d3 d4 d5 r J k a hr]
  unfold mBlk
  rw [m_block d3 d4 d5 r J L k a hr]

theorem outVCodes_apply : outVCodes d3 d6 d7 (ix2 r (col J L))
    = Ideal.fptosi 8 (kVCode (rowKV (gRow d3 r) (cRow r d6) (sRow r d7) J L) (topKV (gRow d3 r) (cRow r d6) (sRow r d7) J)) := by
  obtain ⟨k, a, hr⟩ := rows r
  unfold outVCodes
  rw [tile_apply _ k J (ix2 a L) _ hr rfl, pay16_apply]
  simp only [v_pos d3 d6 d7 r J _ k a hr]
  unfold vRoot
  rw [pay9_apply, v_block d3 d6 d7 r J L k a hr]
  rfl

theorem outMScale_apply : outMScale d3 d4 d5 (ix2 J r) = kMScale (topKM (gRow d3 r) (cRow r d4) (sRow r d5) J) := by
  obtain ⟨k, a, hr⟩ := rows r
  unfold outMScale
  rw [pay3_apply, cols_apply _ k J (ix2 a 0) _ hr rfl, pay13_apply, m_top d3 d4 d5 r J k a hr]

theorem outVScale_apply : outVScale d3 d6 d7 (ix2 J r) = kVScale (topKV (gRow d3 r) (cRow r d6) (sRow r d7) J) := by
  obtain ⟨k, a, hr⟩ := rows r
  unfold outVScale
  rw [pay4_apply, cols_apply _ k J (ix2 a 0) _ hr rfl, pay14_apply]
  simp only [v_pos d3 d6 d7 r J _ k a hr]
  rfl

end Point

end Cert.KernelIdeal.Hand

end
-- ==== Proof.Arrays.lean ====
/-
  What the arrays of `KernelIdeal` hold when it ends: each result, element by element, as the element function of
  Proof/Scalar.lean of one row of the argument arrays.
-/
module

public import proofs.«01_k».proof.Proof.Run
public import proofs.«01_k».proof.Proof.KernelValue

@[expose] public section

noncomputable section

namespace Cert.KernelIdeal.Exact

open Cert.KernelIdeal Cert.KernelIdeal.Gen Cert.KernelIdeal.Hand Cert.Scalar
open Idealize.ShloMosaic Idealize.ShloMosaic.TcCoe
open Idealize.SL Idealize.SL.RA
open Idealize.ShloMosaic.Pipeline (Dat)

variable (m : (ℓ : Loc nD τ sig) → Buf (Elt Ideal) ℓ) (c : Dev nD)

/-! ## Where the blocks lie -/

theorem idx_0 : ∀ t : Fin cfg0.N, win0_0.index t = ![0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![0, t.val] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![0, t.val] := (by decide +kernel : ∀ t : Fin grid0.N, _)
theorem idx_7 : ∀ t : Fin cfg0.N, win0_7.index t = ![t.val, 0] := (by decide +kernel : ∀ t : Fin grid0.N, _)
theorem idx_8 : ∀ t : Fin cfg0.N, win0_8.index t = ![t.val, 0] := (by decide +kernel : ∀ t : Fin grid0.N, _)
theorem idx_9 : ∀ t : Fin cfg0.N, win0_9.index t = ![0, t.val] := (by decide +kernel : ∀ t : Fin grid0.N, _)
theorem idx_10 : ∀ t : Fin cfg0.N, win0_10.index t = ![t.val, 0] := (by decide +kernel : ∀ t : Fin grid0.N, _)
theorem idx_11 : ∀ t : Fin cfg0.N, win0_11.index t = ![0, t.val] := (by decide +kernel : ∀ t : Fin grid0.N, _)

/-- Row `r` of point `t`'s blocks, in the arrays. -/
def rowAt (t : Fin cfg0.N) (r : Fin 256) : Fin 39424 :=
  ⟨256 * t.val + r.val, by have : t.val < 154 := t.isLt; omega⟩

/-! ## The argument arrays, by row -/

abbrev P : Vec Ideal S39424x2048 .f32 := m ((c : Thread nD τ).loc main_arg0)
abbrev G : Vec Ideal S39424x2048 .bf16 := m ((c : Thread nD τ).loc main_arg1)
abbrev MC : Vec Ideal S39424x2048 .i8 := m ((c : Thread nD τ).loc main_arg2)
abbrev MS : Vec Ideal S39424x16 .f32 := m ((c : Thread nD τ).loc main_arg3)
abbrev VC : Vec Ideal S39424x2048 .i8 := m ((c : Thread nD τ).loc main_arg4)
abbrev VS : Vec Ideal S39424x16 .f32 := m ((c : Thread nD τ).loc main_arg5)
abbrev T : Vec Ideal S_ .i32 := m ((c : Thread nD τ).loc main_arg6)

/-! ## What the region finds -/

theorem V_v0 : V m c main_v0 = shapeCast S1 (T m c) shapeCasts_S_S1 := by
  show StableHlo.after hostOps0 (fun b => m (c, b)) _ = _
  after_results
  rfl
theorem V_v1 : V m c main_v1 = transpose S16x39424 [1, 0] (MS m c) transposes_S39424x16_S16x39424_1_0 := by
  show StableHlo.after hostOps0 (fun b => m (c, b)) _ = _
  after_results
theorem V_v2 : V m c main_v2 = transpose S16x39424 [1, 0] (VS m c) transposes_S39424x16_S16x39424_1_0 := by
  show StableHlo.after hostOps0 (fun b => m (c, b)) _ = _
  after_results

/-! ## The input blocks -/

theorem blk_1 (t : Fin cfg0.N) (r : Fin 256) (x : Fin 2048) : iblk m c 1 t (ix2 r x) = P m c (ix2 (rowAt t r) x) := by
  blk_ext! [iblk, V_main_arg0, idx_1 t, rowAt]
theorem blk_2 (t : Fin cfg0.N) (r : Fin 256) (x : Fin 2048) : iblk m c 2 t (ix2 r x) = G m c (ix2 (rowAt t r) x) := by
  blk_ext! [iblk, V_main_arg1, idx_2 t, rowAt]
theorem blk_3 (t : Fin cfg0.N) (r : Fin 256) (x : Fin 2048) : iblk m c 3 t (ix2 r x) = MC m c (ix2 (rowAt t r) x) := by
  blk_ext! [iblk, V_main_arg2, idx_3 t, rowAt]
theorem blk_5 (t : Fin cfg0.N) (r : Fin 256) (x : Fin 2048) : iblk m c 5 t (ix2 r x) = VC m c (ix2 (rowAt t r) x) := by
  blk_ext! [iblk, V_main_arg4, idx_5 t, rowAt]
theorem blk_4 (t : Fin cfg0.N) (r : Fin 256) (j : Fin 16) : iblk m c 4 t (ix2 j r) = MS m c (ix2 (rowAt t r) j) := by
  blk_simp [iblk]
  rw [V_v1]
  pointwise
  blk_ext [idx_4 t, rowAt]
theorem blk_6 (t : Fin cfg0.N) (r : Fin 256) (j : Fin 16) : iblk m c 6 t (ix2 j r) = VS m c (ix2 (rowAt t r) j) := by
  blk_simp [iblk]
  rw [V_v2]
  pointwise
  blk_ext [idx_6 t, rowAt]
theorem blk_0 (t : Fin cfg0.N) : iblk m c 0 t (ix1 0) = T m c ix0 := by
  blk_simp [iblk]
  rw [V_v0]
  pointwise

/-! ## The rows of the blocks -/

theorem gRow_blk (t : Fin cfg0.N) (r : Fin 256) : gRow (iblk m c 2 t) r = fun x => G m c (ix2 (rowAt t r) x) := funext fun x => blk_2 m c t r x
theorem mcRow_blk (t : Fin cfg0.N) (r : Fin 256) : cRow r (iblk m c 3 t) = fun x => MC m c (ix2 (rowAt t r) x) := funext fun x => blk_3 m c t r x
theorem vcRow_blk (t : Fin cfg0.N) (r : Fin 256) : cRow r (iblk m c 5 t) = fun x => VC m c (ix2 (rowAt t r) x) := funext fun x => blk_5 m c t r x
theorem msRow_blk (t : Fin cfg0.N) (r : Fin 256) : sRow r (iblk m c 4 t) = fun j => MS m c (ix2 (rowAt t r) j) := funext fun j => blk_4 m c t r j
theorem vsRow_blk (t : Fin cfg0.N) (r : Fin 256) : sRow r (iblk m c 6 t) = fun j => VS m c (ix2 (rowAt t r) j) := funext fun j => blk_6 m c t r j

/-! ## What the results hold, by row, block and lane -/

section Values
variable (R : Fin 39424) (J : Fin 16) (L : Fin 128)

/-- Row `R` of the gradient, of the codes and of the scales of the two moments. -/
abbrev gOf : Fin 2048 → EReal := fun x => G m c (ix2 R x)
abbrev mcOf : Fin 2048 → BitVec 8 := fun x => MC m c (ix2 R x)
abbrev msOf : Fin 16 → EReal := fun j => MS m c (ix2 R j)
abbrev vcOf : Fin 2048 → BitVec 8 := fun x => VC m c (ix2 R x)
abbrev vsOf : Fin 16 → EReal := fun j => VS m c (ix2 R j)

def valDelta : EReal := kDelta (step (T m c ix0)) (rowKM (gOf m c R) (mcOf m c R) (msOf m c R) J L)
  (rowKV (gOf m c R) (vcOf m c R) (vsOf m c R) J L) (P m c (ix2 R (col J L)))
def valMCodes : BitVec 8 := Ideal.fptosi 8 (kMCode (rowKM (gOf m c R) (mcOf m c R) (msOf m c R) J L) (topKM (gOf m c R) (mcOf m c R) (msOf m c R) J))
def valVCodes : BitVec 8 := Ideal.fptosi 8 (kVCode (rowKV (gOf m c R) (vcOf m c R) (vsOf m c R) J L) (topKV (gOf m c R) (vcOf m c R) (vsOf m c R) J))
def valMScale : EReal := kMScale (topKM (gOf m c R) (mcOf m c R) (msOf m c R) J)
def valVScale : EReal := kVScale (topKV (gOf m c R) (vcOf m c R) (vsOf m c R) J)

end Values

/-- The block and the lane of a column. -/
def blockOf (x : Fin 2048) : Fin 16 := ⟨x.val / 128, by omega⟩
def laneOf (x : Fin 2048) : Fin 128 := ⟨x.val % 128, by omega⟩
theorem col_blockOf (x : Fin 2048) : col (blockOf x) (laneOf x) = x :=
  Fin.ext (by show 128 * (x.val / 128) + x.val % 128 = x.val; omega)

def arrDelta : Vec Ideal S39424x2048 .f32 := fun y => valDelta m c (y 0) (blockOf (y 1)) (laneOf (y 1))
def arrMCodes : Vec Ideal S39424x2048 .i8 := fun y => valMCodes m c (y 0) (blockOf (y 1)) (laneOf (y 1))
def arrVCodes : Vec Ideal S39424x2048 .i8 := fun y => valVCodes m c (y 0) (blockOf (y 1)) (laneOf (y 1))
def arrMScale : Vec Ideal S16x39424 .f32 := fun y => valMScale m c (y 1) (y 0)
def arrVScale : Vec Ideal S16x39424 .f32 := fun y => valVScale m c (y 1) (y 0)

/-! ## The arrays -/

theorem out_7 (t : Fin cfg0.N) (r : Fin 256) (J : Fin 16) (L : Fin 128) :
    outDelta (iblk m c 0 t) (iblk m c 1 t) (iblk m c 2 t) (iblk m c 3 t) (iblk m c 4 t) (iblk m c 5 t) (iblk m c 6 t) (ix2 r (col J L))
      = valDelta m c (rowAt t r) J L := by
  rw [outDelta_apply, gRow_blk, mcRow_blk, msRow_blk, vcRow_blk, vsRow_blk, blk_0, blk_1]
  rfl
theorem out_8 (t : Fin cfg0.N) (r : Fin 256) (J : Fin 16) (L : Fin 128) :
    outMCodes (iblk m c 2 t) (iblk m c 3 t) (iblk m c 4 t) (ix2 r (col J L)) = valMCodes m c (rowAt t r) J L := by
  rw [outMCodes_apply, gRow_blk, mcRow_blk, msRow_blk]
  rfl
theorem out_9 (t : Fin cfg0.N) (r : Fin 256) (J : Fin 16) :
    outMScale (iblk m c 2 t) (iblk m c 3 t) (iblk m c 4 t) (ix2 J r) = valMScale m c (rowAt t r) J := by
  rw [outMScale_apply, gRow_blk, mcRow_blk, msRow_blk]
  rfl
theorem out_10 (t : Fin cfg0.N) (r : Fin 256) (J : Fin 16) (L : Fin 128) :
    outVCodes (iblk m c 2 t) (iblk m c 5 t) (iblk m c 6 t) (ix2 r (col J L)) = valVCodes m c (rowAt t r) J L := by
  rw [outVCodes_apply, gRow_blk, vcRow_blk, vsRow_blk]
  rfl
theorem out_11 (t : Fin cfg0.N) (r : Fin 256) (J : Fin 16) :
    outVScale (iblk m c 2 t) (iblk m c 5 t) (iblk m c 6 t) (ix2 J r) = valVScale m c (rowAt t r) J := by
  rw [outVScale_apply, gRow_blk, vcRow_blk, vsRow_blk]
  rfl

/-- A tile of point `t` at an index is the array's function at that index's place in the array. -/
theorem wide {α : Type} (t : Fin cfg0.N) (X : S256x2048.Idx → α) (f : Fin 39424 → Fin 16 → Fin 128 → α)
    (h : ∀ r J L, X (ix2 r (col J L)) = f (rowAt t r) J L) (z : S39424x2048.Idx) (y : S256x2048.Idx)
    (h0 : (z 0).val = t.val * 256 + (y 0).val) (h1 : (z 1).val = (y 1).val) : X y = f (z 0) (blockOf (z 1)) (laneOf (z 1)) := by
  obtain ⟨r, x, rfl⟩ : ∃ r x, y = ix2 r x := ⟨y 0, y 1, eq_ix2 y⟩
  have e0 : (z 0 : Fin 39424) = rowAt t r := Fin.ext (by have : (z 0).val = t.val * 256 + r.val := h0; show (z 0).val = 256 * t.val + r.val; omega)
  have e1 : (z 1 : Fin 2048) = x := Fin.ext h1
  rw [e0, e1, ← h, col_blockOf]
theorem tall {α : Type} (t : Fin cfg0.N) (X : S16x256.Idx → α) (f : Fin 39424 → Fin 16 → α)
    (h : ∀ r J, X (ix2 J r) = f (rowAt t r) J) (z : S16x39424.Idx) (y : S16x256.Idx)
    (h0 : (z 0).val = (y 0).val) (h1 : (z 1).val = t.val * 256 + (y 1).val) : X y = f (z 1) (z 0) := by
  obtain ⟨J, r, rfl⟩ : ∃ J r, y = ix2 J r := ⟨y 0, y 1, eq_ix2 y⟩
  have e0 : (z 0 : Fin 16) = J := Fin.ext h0
  have e1 : (z 1 : Fin 39424) = rowAt t r := Fin.ext (by have : (z 1).val = t.val * 256 + r.val := h1; show (z 1).val = 256 * t.val + r.val; omega)
  rw [e0, e1, ← h]

theorem final_7 : (dats m 0 c).arrAt 7 cfg0.N = arrDelta m c := by
  refine (dats m 0 c).arrAt_eq_of_covers 7 _ (by decide +kernel) fun t hf y => ?_
  blk_simp
  have h0 : (((win0_7.blk t).view.emb y : S39424x2048.Idx) 0).val = t.val * 256 + ((y : S256x2048.Idx) 0).val := by
    blk_simp [idx_7 t]
  have h1 : (((win0_7.blk t).view.emb y : S39424x2048.Idx) 1).val = ((y : S256x2048.Idx) 1).val := by
    blk_simp [idx_7 t]
  exact wide t _ _ (out_7 m c t) _ y h0 h1

theorem final_8 : (dats m 0 c).arrAt 8 cfg0.N = arrMCodes m c := by
  refine (dats m 0 c).arrAt_eq_of_covers 8 _ (by decide +kernel) fun t hf y => ?_
  blk_simp
  have h0 : (((win0_8.blk t).view.emb y : S39424x2048.Idx) 0).val = t.val * 256 + ((y : S256x2048.Idx) 0).val := by
    blk_simp [idx_8 t]
  have h1 : (((win0_8.blk t).view.emb y : S39424x2048.Idx) 1).val = ((y : S256x2048.Idx) 1).val := by
    blk_simp [idx_8 t]
  exact wide t _ _ (out_8 m c t) _ y h0 h1

theorem final_10 : (dats m 0 c).arrAt 10 cfg0.N = arrVCodes m c := by
  refine (dats m 0 c).arrAt_eq_of_covers 10 _ (by decide +kernel) fun t hf y => ?_
  blk_simp
  have h0 : (((win0_10.blk t).view.emb y : S39424x2048.Idx) 0).val = t.val * 256 + ((y : S256x2048.Idx) 0).val := by
    blk_simp [idx_10 t]
  have h1 : (((win0_10.blk t).view.emb y : S39424x2048.Idx) 1).val = ((y : S256x2048.Idx) 1).val := by
    blk_simp [idx_10 t]
  exact wide t _ _ (out_10 m c t) _ y h0 h1

theorem final_9 : (dats m 0 c).arrAt 9 cfg0.N = arrMScale m c := by
  refine (dats m 0 c).arrAt_eq_of_covers 9 _ (by decide +kernel) fun t hf y => ?_
  blk_simp
  have h0 : (((win0_9.blk t).view.emb y : S16x39424.Idx) 0).val = ((y : S16x256.Idx) 0).val := by
    blk_simp [idx_9 t]
  have h1 : (((win0_9.blk t).view.emb y : S16x39424.Idx) 1).val = t.val * 256 + ((y : S16x256.Idx) 1).val := by
    blk_simp [idx_9 t]
  exact tall t _ _ (out_9 m c t) _ y h0 h1

theorem final_11 : (dats m 0 c).arrAt 11 cfg0.N = arrVScale m c := by
  refine (dats m 0 c).arrAt_eq_of_covers 11 _ (by decide +kernel) fun t hf y => ?_
  blk_simp
  have h0 : (((win0_11.blk t).view.emb y : S16x39424.Idx) 0).val = ((y : S16x256.Idx) 0).val := by
    blk_simp [idx_11 t]
  have h1 : (((win0_11.blk t).view.emb y : S16x39424.Idx) 1).val = t.val * 256 + ((y : S16x256.Idx) 1).val := by
    blk_simp [idx_11 t]
  exact tall t _ _ (out_11 m c t) _ y h0 h1

end Cert.KernelIdeal.Exact

end
-- ==== Proof.Results.lean ====
/-
  The run of `KernelIdeal` with every result array named: the three arrays the region writes in place, the two scale arrays
  transposed by the host lines after it, and the argument arrays as launched.
-/
module

public import proofs.«01_k».proof.Proof.Arrays

@[expose] public section

noncomputable section

namespace Cert.KernelIdeal.Exact

open Cert.KernelIdeal Cert.KernelIdeal.Gen Cert.KernelIdeal.Hand Cert.Scalar
open Idealize.ShloMosaic Idealize.ShloMosaic.TcCoe
open Idealize.SL Idealize.SL.RA Idealize.SL.Sem
open Idealize.ShloMosaic.Pipeline (Dat)

variable (m : (ℓ : Loc nD τ sig) → Buf (Elt Ideal) ℓ) (ρ : Dev nD → PrngReg)

theorem arrRef_inj : Function.Injective (Pipeline.arrRef spec0) := by decide

/-- The first moment's scales as the host returns them: transposed. -/
theorem tail_v4 (c : Dev nD) : Pipeline.afterTail₀ cfgs (dats m) 0 (V0 m) [hostOps1] c main_v4
    = transpose S39424x16 [1, 0] (arrMScale m c) transposes_S16x39424_S39424x16_1_0 := by
  unfold Pipeline.afterTail₀
  rw [show ([hostOps1] : List (List (HloOp τ sig (Elt Ideal)))).flatten = hostOps1 from rfl]
  after_results
  rw [← final_9 m c]
  exact congrArg (fun a => transpose S39424x16 [1, 0] a transposes_S16x39424_S39424x16_1_0)
    (Pipeline.withArrays_arr spec0 arrRef_inj c (V0 m c) (fun w => (dats m 0 c).arrAt w cfg0.N) 9)

/-- The second moment's scales as the host returns them: transposed. -/
theorem tail_v5 (c : Dev nD) : Pipeline.afterTail₀ cfgs (dats m) 0 (V0 m) [hostOps1] c main_v5
    = transpose S39424x16 [1, 0] (arrVScale m c) transposes_S16x39424_S39424x16_1_0 := by
  unfold Pipeline.afterTail₀
  rw [show ([hostOps1] : List (List (HloOp τ sig (Elt Ideal)))).flatten = hostOps1 from rfl]
  after_results
  rw [← final_11 m c]
  exact congrArg (fun a => transpose S39424x16 [1, 0] a transposes_S16x39424_S39424x16_1_0)
    (Pipeline.withArrays_arr spec0 arrRef_inj c (V0 m c) (fun w => (dats m 0 c).arrAt w cfg0.N) 11)

set_option maxRecDepth 16384 in
/-- Every execution ends with the five results at the named arrays and the arguments as launched. -/
theorem run_results :
    θ_run defs (onTc (τ := τ) (main (F := Ideal))) ⟨m, fun _ => 0, ρ⟩ (fun r => ∀ c : Dev nD,
      r.2.mem ((c.tc : Thread nD τ).loc main_v3_0) = arrDelta m c
      ∧ r.2.mem ((c.tc : Thread nD τ).loc main_v3_1) = arrMCodes m c
      ∧ r.2.mem ((c.tc : Thread nD τ).loc main_v4) = transpose S39424x16 [1, 0] (arrMScale m c) transposes_S16x39424_S39424x16_1_0
      ∧ r.2.mem ((c.tc : Thread nD τ).loc main_v3_3) = arrVCodes m c
      ∧ r.2.mem ((c.tc : Thread nD τ).loc main_v5) = transpose S39424x16 [1, 0] (arrVScale m c) transposes_S16x39424_S39424x16_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (final_7 m c), ((h.1 c).1 8).trans (final_8 m c),
      ((h.1 c).2 main_v4 (Pipeline.mem_restRefs_of main_v4 (by decide) (by decide))).trans (tail_v4 m c),
      ((h.1 c).1 10).trans (final_10 m c),
      ((h.1 c).2 main_v5 (Pipeline.mem_restRefs_of main_v5 (by decide) (by decide))).trans (tail_v5 m c),
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      (((h.1 c).2 main_arg3 (Pipeline.mem_restRefs_of main_arg3 (by decide) (by decide))).trans (W_main_arg3 m (dats m) c)),
      ((h.1 c).1 5).trans (((dats m 0 c).arrAt_in 5 rfl _).trans ((A_eq m c 5).trans (V_main_arg4 m c))),
      (((h.1 c).2 main_arg5 (Pipeline.mem_restRefs_of main_arg5 (by decide) (by decide))).trans (W_main_arg5 m (dats m) c)),
      (((h.1 c).2 main_arg6 (Pipeline.mem_restRefs_of main_arg6 (by decide) (by decide))).trans (W_main_arg6 m (dats m) c))⟩)
    (run_main m ρ)

end Cert.KernelIdeal.Exact

end
-- ==== Proof.ReferenceValue.lean ====
/-
  What the reference computes, read at an index: each element of its five results is the element function of
  Proof/Scalar.lean, of one row of the argument arrays.
-/
module

public import proofs.«01_k».proof.Proof.Gen.ReferenceIdeal
public import proofs.«01_k».proof.Proof.Gen.ReferenceIdeal.Run
public import proofs.«01_k».proof.Proof.Consts
public import Idealize.ShloMosaic.Lib.Pointwise
public import Idealize.ShloMosaic.Lib.Pipeline.ValueKit

@[expose] public section

noncomputable section

namespace Cert.ReferenceIdeal.Hand

open Cert.ReferenceIdeal Cert.ReferenceIdeal.Gen Cert.Scalar
open Idealize.ShloMosaic

/-! ## The stages, as the program composes them -/

/-- A moment out of its codes and scales, in blocks. -/
def deq3 (q : IVec S39424x2048 8) (s : FVec Ideal S39424x16 .f32) : FVec Ideal S39424x16x128 .f32 :=
  mulf (shapeCast S39424x16x128 (sitofp .f32 (extsi 32 q natLt_8_32)) shapeCasts_S39424x2048_S39424x16x128)
    (broadcastInDim S39424x16x128 ![0, 1, 2] bcast_S39424x16x1_S39424x16x128_0_1_2
      (broadcastInDim S39424x16x1 ![0, 1] bcast_S39424x16_S39424x16x1_0_1 s))
/-- The same in rows. -/
def deq (q : IVec S39424x2048 8) (s : FVec Ideal S39424x16 .f32) : FVec Ideal S39424x2048 .f32 :=
  shapeCast S39424x2048 (deq3 q s) shapeCasts_S39424x16x128_S39424x2048
/-- A scalar in every place of the rows. -/
def every (x : FVec Ideal S_ .f32) : FVec Ideal S39424x2048 .f32 := broadcastInDim S39424x2048 ![] bcast_S_S39424x2048 x
def const (w : BitVec 32) : FVec Ideal S_ .f32 := constant S_ .f32 w
def quot (n d : BitVec 32) : FVec Ideal S_ .f32 := Host.divf (const n) (const d)
/-- The new first moment. -/
def newM (g : FVec Ideal S39424x2048 .bf16) (q : IVec S39424x2048 8) (s : FVec Ideal S39424x16 .f32) : FVec Ideal S39424x2048 .f32 :=
  addf (mulf (every (quot 0x41100000#32 0x41200000#32)) (deq q s))
    (mulf (every (quot 0x3F800000#32 0x41200000#32)) (extf .f32 g bitsLt_bf16_f32))
/-- The new second moment. -/
def newV (g : FVec Ideal S39424x2048 .bf16) (q : IVec S39424x2048 8) (s : FVec Ideal S39424x16 .f32) : FVec Ideal S39424x2048 .f32 :=
  addf (mulf (every (quot 0x4479C000#32 0x447A0000#32)) (mulf (deq q s) (deq q s)))
    (mulf (every (quot 0x3F800000#32 0x447A0000#32)) (mulf (extf .f32 g bitsLt_bf16_f32) (extf .f32 g bitsLt_bf16_f32)))
/-- The largest magnitude of each block. -/
def amax (x : FVec Ideal S39424x2048 .f32) : FVec Ideal S39424x16 .f32 :=
  Host.reduce FloatOps.maximumf (Host.absf (shapeCast S39424x16x128 x shapeCasts_S39424x2048_S39424x16x128)) (const 0xFF800000#32)
    reducesTo_S39424x16x128_S39424x16_d2 h_S_
/-- The scales of blocks of these largest magnitudes. -/
def scales (a : FVec Ideal S39424x16 .f32) : FVec Ideal S39424x16 .f32 :=
  select (cmpf .oeq a (broadcastInDim S39424x16 ![] bcast_S_S39424x16 (const 0x00000000#32)))
    (broadcastInDim S39424x16 ![] bcast_S_S39424x16 (const 0x3F800000#32))
    (Host.divf a (broadcastInDim S39424x16 ![] bcast_S_S39424x16 (const 0x42FE0000#32)))
/-- The scale of each block. -/
def scaleOf (x : FVec Ideal S39424x2048 .f32) : FVec Ideal S39424x16 .f32 := scales (amax x)
/-- The codes at these scales, in blocks. -/
def codes3 (x : FVec Ideal S39424x16x128 .f32) (w : FVec Ideal S39424x16 .f32) : IVec S39424x16x128 8 :=
  trunci 8 (fptosi 32 (minimumf (broadcastInDim S39424x16x128 ![] bcast_S_S39424x16x128 (id (const 0x42FE0000#32)))
    (maximumf (broadcastInDim S39424x16x128 ![] bcast_S_S39424x16x128 (id (const 0xC2FE0000#32)))
      (Host.roundeven (Host.divf x
        (broadcastInDim S39424x16x128 ![0, 1, 2] bcast_S39424x16x1_S39424x16x128_0_1_2
          (broadcastInDim S39424x16x1 ![0, 1] bcast_S39424x16_S39424x16x1_0_1 w))))))) natLt_8_32
/-- The codes, in rows. -/
def codesOf (x : FVec Ideal S39424x2048 .f32) : IVec S39424x2048 8 :=
  shapeCast S39424x2048 (codes3 (shapeCast S39424x16x128 x shapeCasts_S39424x2048_S39424x16x128) (scaleOf x)) shapeCasts_S39424x16x128_S39424x2048
/-- One minus a decay to the power of the step number. -/
def bias (b : FVec Ideal S_ .f32) (t : IVec S_ 32) : FVec Ideal S_ .f32 :=
  subf (const 0x3F800000#32) (Host.powf b (sitofp .f32 t))
/-- The update. -/
def delta (p : FVec Ideal S39424x2048 .f32) (mn vn : FVec Ideal S39424x2048 .f32) (t : IVec S_ 32) : FVec Ideal S39424x2048 .f32 :=
  mulf (every (Host.negf (quot 0x3F800000#32 0x447A0000#32)))
    (addf (Host.divf (Host.divf mn (every (bias (quot 0x41100000#32 0x41200000#32) t)))
        (addf (Host.sqrt (Host.divf vn (every (bias (quot 0x4479C000#32 0x447A0000#32) t)))) (every (quot 0x3F800000#32 0x4CBEBC20#32))))
      (mulf (every (quot 0x3F800000#32 0x42C80000#32)) p))

/-! ## The constants -/

theorem quot_m : quot 0x41100000#32 0x41200000#32 ix0 = ((9 / 10 : ℝ) : EReal) := by
  pointwise [quot, const]
  rw [w_9, w_10, Ideal.div_coe (by norm_num), ← EReal.coe_mul]; norm_num
theorem quot_g : quot 0x3F800000#32 0x41200000#32 ix0 = ((1 / 10 : ℝ) : EReal) := by
  pointwise [quot, const]
  rw [w_10, Ideal.div_coe (by norm_num), one_mul]
theorem quot_v : quot 0x4479C000#32 0x447A0000#32 ix0 = ((999 / 1000 : ℝ) : EReal) := by
  pointwise [quot, const]
  rw [w_999, w_1000, Ideal.div_coe (by norm_num), ← EReal.coe_mul]; norm_num
theorem quot_gg : quot 0x3F800000#32 0x447A0000#32 ix0 = ((1 / 1000 : ℝ) : EReal) := by
  pointwise [quot, const]
  rw [w_1000, Ideal.div_coe (by norm_num), one_mul]
theorem quot_eps : quot 0x3F800000#32 0x4CBEBC20#32 ix0 = ((1 / 10 ^ 8 : ℝ) : EReal) := by
  pointwise [quot, const]
  rw [w_1e8, Ideal.div_coe (by norm_num), one_mul]
theorem quot_wd : quot 0x3F800000#32 0x42C80000#32 ix0 = ((1 / 100 : ℝ) : EReal) := by
  pointwise [quot, const]
  rw [w_100, Ideal.div_coe (by norm_num), one_mul]

theorem every_apply (x : FVec Ideal S_ .f32) (i : S39424x2048.Idx) : every x i = x ix0 := by
  pointwise [every]

/-! ## The stages at an index -/

section At
variable (g : FVec Ideal S39424x2048 .bf16) (q : IVec S39424x2048 8) (s : FVec Ideal S39424x16 .f32)
variable (R : Fin 39424) (J : Fin 16) (L : Fin 128)

/-- A row read in blocks. -/
theorem split_apply {α : Type} (x : S39424x2048.Idx → α) :
    shapeCast S39424x16x128 x shapeCasts_S39424x2048_S39424x16x128 (ix3 R J L) = x (ix2 R (col J L)) := by
  pointwise
  exact congrArg (fun z => x (ix2 R z)) (Fin.ext (by show J.val * 128 + L.val = 128 * J.val + L.val; omega))
/-- Blocks read in a row. -/
theorem join_apply {α : Type} (x : S39424x16x128.Idx → α) :
    shapeCast S39424x2048 x shapeCasts_S39424x16x128_S39424x2048 (ix2 R (col J L)) = x (ix3 R J L) := by
  rw [← split_apply R J L (shapeCast S39424x2048 x shapeCasts_S39424x16x128_S39424x2048)]
  pointwise

theorem deq3_apply : deq3 q s (ix3 R J L) = code (q (ix2 R (col J L))) * s (ix2 R J) := by
  unfold deq3
  rw [show ∀ (a b : FVec Ideal S39424x16x128 .f32) i, mulf a b i = a i * b i from fun _ _ _ => rfl, split_apply]
  pointwise
  show ((((q (ix2 R (col J L))).signExtend 32).toInt : ℝ) : EReal) * _ = _
  rw [BitVec.toInt_signExtend_of_le (by norm_num)]
  rfl

theorem deq_apply : deq q s (ix2 R (col J L)) = code (q (ix2 R (col J L))) * s (ix2 R J) := by
  unfold deq
  rw [join_apply, deq3_apply]

theorem newM_apply : newM g q s (ix2 R (col J L)) = rowRM (fun x => g (ix2 R x)) (fun x => q (ix2 R x)) (fun j => s (ix2 R j)) J L := by
  pointwise [newM]
  rw [every_apply, every_apply, deq_apply, quot_m, quot_g]
  rfl

theorem newV_apply : newV g q s (ix2 R (col J L)) = rowRV (fun x => g (ix2 R x)) (fun x => q (ix2 R x)) (fun j => s (ix2 R j)) J L := by
  pointwise [newV]
  rw [every_apply, every_apply, deq_apply, quot_v, quot_gg]
  rfl

theorem amax_apply (x : FVec Ideal S39424x2048 .f32) :
    amax x (ix2 R J) = top fun l => max (x (ix2 R (col J l))) (-x (ix2 R (col J l))) := by
  pointwise [amax, const]
  rw [w_bot]
  exact congrArg (fun f => Finset.fold max ⊥ f Finset.univ) (funext fun l => by
    rw [show (⟨J.val * 128 + l.val, by omega⟩ : Fin 2048) = col J l from Fin.ext (by show J.val * 128 + l.val = 128 * J.val + l.val; omega)]
    rfl)

theorem scales_apply (a : FVec Ideal S39424x16 .f32) : scales a (ix2 R J) = rScale (a (ix2 R J)) := by
  pointwise [scales, const]
  rw [w_127]
  rfl

theorem scaleOf_apply (x : FVec Ideal S39424x2048 .f32) : scaleOf x (ix2 R J) = rScale (amax x (ix2 R J)) :=
  scales_apply R J (amax x)

theorem codes3_apply (x : FVec Ideal S39424x16x128 .f32) (w : FVec Ideal S39424x16 .f32) :
    codes3 x w (ix3 R J L) = (Ideal.fptosi 32 (rCode (x (ix3 R J L)) (w (ix2 R J)))).setWidth 8 := by
  pointwise [codes3, const]
  rw [show id (constant (F := Ideal) S_ .f32 0x42FE0000#32) ix0 = ((127 : ℝ) : EReal) from w_127,
    show id (constant (F := Ideal) S_ .f32 0xC2FE0000#32) ix0 = ((-127 : ℝ) : EReal) from w_neg127]
  rfl

theorem codesOf_apply (x : FVec Ideal S39424x2048 .f32) : codesOf x (ix2 R (col J L))
    = (Ideal.fptosi 32 (rCode (x (ix2 R (col J L))) (rScale (amax x (ix2 R J))))).setWidth 8 := by
  unfold codesOf
  rw [join_apply, codes3_apply, split_apply, scaleOf_apply]

theorem bias_m (t : IVec S_ 32) : bias (quot 0x41100000#32 0x41200000#32) t ix0 = 1 - Ideal.pow ((9 / 10 : ℝ) : EReal) (step (t ix0)) := by
  pointwise [bias, const]
  rw [quot_m]
  rfl
theorem bias_v (t : IVec S_ 32) : bias (quot 0x4479C000#32 0x447A0000#32) t ix0 = 1 - Ideal.pow ((999 / 1000 : ℝ) : EReal) (step (t ix0)) := by
  pointwise [bias, const]
  rw [quot_v]
  rfl

theorem delta_apply (p mn vn : FVec Ideal S39424x2048 .f32) (t : IVec S_ 32) (i : S39424x2048.Idx) :
    delta p mn vn t i = rDelta (step (t ix0)) (mn i) (vn i) (p i) := by
  pointwise [delta]
  rw [every_apply, every_apply, every_apply, every_apply, every_apply, bias_m, bias_v, quot_eps, quot_wd]
  pointwise
  rw [quot_gg]
  rfl

end At

/-! ## The results -/

section Results
variable (m : (ℓ : Loc nD τ sig) → Buf (Elt Ideal) ℓ) (ρ : Dev nD → PrngReg)

open Idealize.ShloMosaic.TcCoe Idealize.SL.Sem

/-- The new moments, of the argument arrays. -/
def nM (c : Dev nD) : FVec Ideal S39424x2048 .f32 :=
  newM (m ((c.tc : Thread nD τ).loc main_arg1)) (m ((c.tc : Thread nD τ).loc main_arg2)) (m ((c.tc : Thread nD τ).loc main_arg3))
def nV (c : Dev nD) : FVec Ideal S39424x2048 .f32 :=
  newV (m ((c.tc : Thread nD τ).loc main_arg1)) (m ((c.tc : Thread nD τ).loc main_arg4)) (m ((c.tc : Thread nD τ).loc main_arg5))

set_option maxRecDepth 16384 in
/-- Every execution ends with the five results at the stages' arrays and the arguments as launched. -/
theorem run_results :
    θ_run defs (onTc (τ := τ) (main (F := Ideal))) ⟨m, fun _ => 0, ρ⟩ (fun r => ∀ c : Dev nD,
      r.2.mem ((c.tc : Thread nD τ).loc main_v52) = delta (m ((c.tc : Thread nD τ).loc main_arg0)) (nM m c) (nV m c) (m ((c.tc : Thread nD τ).loc main_arg6))
      ∧ r.2.mem ((c.tc : Thread nD τ).loc main_v69_0) = codesOf (nM m c)
      ∧ r.2.mem ((c.tc : Thread nD τ).loc main_v69_1) = scaleOf (nM m c)
      ∧ r.2.mem ((c.tc : Thread nD τ).loc main_v87_0) = codesOf (Host.sqrt (nV m c))
      ∧ r.2.mem ((c.tc : Thread nD τ).loc main_v87_1) = scaleOf (Host.sqrt (nV m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1, (h c).2.1.trans (id_eq _), (h c).2.2.1.trans (id_eq _),
    (h c).2.2.2.1.trans (id_eq _), (h c).2.2.2.2.1.trans (id_eq _), (h c).2.2.2.2.2⟩)
    (Cert.ReferenceIdeal.Value.run (F := Ideal) m ρ)

end Results

end Cert.ReferenceIdeal.Hand

end
-- ==== Proof.Tame.lean ====
/-
  What the precondition says, read at an index: the step number is not zero, the gradient and the scales are real, and
  no nonzero second moment and no nonzero largest first moment of a block is so small that the kernel takes it for zero.
-/
module

public import proofs.«01_k».proof.Defs
public import proofs.«01_k».proof.Proof.Consts
public import Idealize.ShloMosaic.Lib.Pointwise
public import Idealize.ShloMosaic.Lib.Pipeline.ValueKit

@[expose] public section

noncomputable section

namespace Cert.Pre_tame.Hand

open Cert.Pre_tame Cert.Scalar
open Idealize.ShloMosaic

/-- The shape relations the precondition states. -/
instance facts : Cert.Pre_tame.Facts where
  bitsLt_bf16_f32 := by decide
  natLt_8_32 := by decide
  shapeCasts_S39424x2048_S39424x16x128 := by decide
  bcast_S39424x16_S39424x16x1_0_1 := by decide
  bcast_S39424x16x1_S39424x16x128_0_1_2 := by decide
  shapeCasts_S39424x16x128_S39424x2048 := by decide
  bcast_S_S39424x2048 := by decide
  reducesTo_S39424x16x128_S39424x16_d2 := by decide
  h_S_ := by decide
  bcast_S_S39424x16 := by decide

/-! ## The stages, as the precondition composes them -/

open Facts

section Stages
variable (g : FVec Ideal S39424x2048 .bf16) (q : IVec S39424x2048 8) (s : FVec Ideal S39424x16 .f32)

/-- A moment out of its codes and scales, in blocks. -/
def deq3 : FVec Ideal S39424x16x128 .f32 :=
  mulf (shapeCast S39424x16x128 (sitofp .f32 (extsi 32 q natLt_8_32)) shapeCasts_S39424x2048_S39424x16x128)
    (broadcastInDim S39424x16x128 ![0, 1, 2] bcast_S39424x16x1_S39424x16x128_0_1_2
      (broadcastInDim S39424x16x1 ![0, 1] bcast_S39424x16_S39424x16x1_0_1 s))
def deq : FVec Ideal S39424x2048 .f32 := shapeCast S39424x2048 (deq3 q s) shapeCasts_S39424x16x128_S39424x2048
def every (w : BitVec 32) : FVec Ideal S39424x2048 .f32 := broadcastInDim S39424x2048 ![] bcast_S_S39424x2048 (constant S_ .f32 w)
def each (w : BitVec 32) : FVec Ideal S39424x16 .f32 := broadcastInDim S39424x16 ![] bcast_S_S39424x16 (constant S_ .f32 w)
/-- Ten times the new first moment. -/
def tenM : FVec Ideal S39424x2048 .f32 := addf (mulf (every 0x41100000#32) (deq q s)) (extf .f32 g bitsLt_bf16_f32)
/-- A thousand times the new second moment. -/
def thouV : FVec Ideal S39424x2048 .f32 :=
  addf (mulf (every 0x4479C000#32) (mulf (deq q s) (deq q s))) (mulf (extf .f32 g bitsLt_bf16_f32) (extf .f32 g bitsLt_bf16_f32))
/-- The largest magnitude of each block. -/
def amax (x : FVec Ideal S39424x2048 .f32) : FVec Ideal S39424x16 .f32 :=
  Host.reduce FloatOps.maximumf (shapeCast S39424x16x128 (Host.absf x) shapeCasts_S39424x2048_S39424x16x128) (constant S_ .f32 0xFF800000#32)
    reducesTo_S39424x16x128_S39424x16_d2 h_S_
/-- What is asked of each element: of the gradient and of the second moment. -/
def okElt (v : FVec Ideal S39424x2048 .f32) : IVec S39424x2048 1 :=
  andi (cmpf .olt (Host.absf (extf .f32 g bitsLt_bf16_f32)) (every 0x7F800000#32))
    (ori (cmpf .oeq v (every 0x00000000#32)) (cmpf .ogt v (every 0x03AA2425#32)))
/-- What is asked of each block: of the two scales, of the largest first moment and of the step number. -/
def okBlock (ms vs a : FVec Ideal S39424x16 .f32) (t : IVec S_ 32) : IVec S39424x16 1 :=
  andi (andi (andi (cmpf .olt (Host.absf ms) (each 0x7F800000#32)) (cmpf .olt (Host.absf vs) (each 0x7F800000#32)))
    (ori (cmpf .oeq a (each 0x00000000#32)) (cmpf .oge a (each 0x03AA2425#32))))
    (broadcastInDim S39424x16 ![] bcast_S_S39424x16 (cmpi .ne t (constantI S_ 32 0#32)))
def ok (e : IVec S39424x2048 1) (b : IVec S39424x16 1) : IVec S39424x16x128 1 :=
  andi (shapeCast S39424x16x128 e shapeCasts_S39424x2048_S39424x16x128)
    (broadcastInDim S39424x16x128 ![0, 1, 2] bcast_S39424x16x1_S39424x16x128_0_1_2
      (broadcastInDim S39424x16x1 ![0, 1] bcast_S39424x16_S39424x16x1_0_1 b))

end Stages

theorem fn_eq (p : FVec Ideal S39424x2048 .f32) (g : FVec Ideal S39424x2048 .bf16) (mq : IVec S39424x2048 8) (ms : FVec Ideal S39424x16 .f32)
    (vq : IVec S39424x2048 8) (vs : FVec Ideal S39424x16 .f32) (t : IVec S_ 32) :
    Cert.Pre_tame.fn (F := Ideal) p g mq ms vq vs t = ok (okElt g (thouV g vq vs)) (okBlock ms vs (amax (tenM g mq ms)) t) := rfl

/-! ## One-bit words -/

theorem and_one : ∀ {a b : BitVec 1}, IntOp.andi a b = 1#1 → a = 1#1 ∧ b = 1#1 := by decide
theorem or_one : ∀ {a b : BitVec 1}, IntOp.ori a b = 1#1 → a = 1#1 ∨ b = 1#1 := by decide
theorem bool_one : ∀ {a : Bool}, BitVec.ofBool a = 1#1 → a = true := by decide
theorem prop_one {p : Prop} [Decidable p] (h : BitVec.ofBool (decide p) = 1#1) : p := of_decide_eq_true (bool_one h)
theorem zero_word {x : EReal} (h : x = Ideal.ofBits .f32 0#32) : x = 0 := h.trans Ideal.ofBits_zero_f32

/-! ## The stages at an index -/

section At
variable (R : Fin 39424) (J : Fin 16) (L : Fin 128)

theorem split_apply {α : Type} (x : S39424x2048.Idx → α) :
    shapeCast S39424x16x128 x shapeCasts_S39424x2048_S39424x16x128 (ix3 R J L) = x (ix2 R (col J L)) := by
  pointwise
  exact congrArg (fun z => x (ix2 R z)) (Fin.ext (by show J.val * 128 + L.val = 128 * J.val + L.val; omega))
theorem join_apply {α : Type} (x : S39424x16x128.Idx → α) :
    shapeCast S39424x2048 x shapeCasts_S39424x16x128_S39424x2048 (ix2 R (col J L)) = x (ix3 R J L) := by
  rw [← split_apply R J L (shapeCast S39424x2048 x shapeCasts_S39424x16x128_S39424x2048)]
  pointwise

theorem deq_apply (q : IVec S39424x2048 8) (s : FVec Ideal S39424x16 .f32) :
    deq q s (ix2 R (col J L)) = code (q (ix2 R (col J L))) * s (ix2 R J) := by
  unfold deq
  rw [join_apply]
  unfold deq3
  rw [show ∀ (a b : FVec Ideal S39424x16x128 .f32) i, mulf a b i = a i * b i from fun _ _ _ => rfl, split_apply]
  pointwise
  show ((((q (ix2 R (col J L))).signExtend 32).toInt : ℝ) : EReal) * _ = _
  rw [BitVec.toInt_signExtend_of_le (by norm_num)]
  rfl

theorem every_apply (w : BitVec 32) (i : S39424x2048.Idx) : every w i = Ideal.ofBits .f32 w := by
  pointwise [every]
theorem each_apply (w : BitVec 32) (i : S39424x16.Idx) : each w i = Ideal.ofBits .f32 w := by
  pointwise [each]

theorem tenM_apply (g : FVec Ideal S39424x2048 .bf16) (q : IVec S39424x2048 8) (s : FVec Ideal S39424x16 .f32) :
    tenM g q s (ix2 R (col J L)) = ((9 : ℝ) : EReal) * (code (q (ix2 R (col J L))) * s (ix2 R J)) + g (ix2 R (col J L)) := by
  pointwise [tenM]
  rw [every_apply, deq_apply, w_9]

theorem thouV_apply (g : FVec Ideal S39424x2048 .bf16) (q : IVec S39424x2048 8) (s : FVec Ideal S39424x16 .f32) :
    thouV g q s (ix2 R (col J L)) = ((999 : ℝ) : EReal) * (code (q (ix2 R (col J L))) * s (ix2 R J) * (code (q (ix2 R (col J L))) * s (ix2 R J)))
      + g (ix2 R (col J L)) * g (ix2 R (col J L)) := by
  pointwise [thouV]
  rw [every_apply, deq_apply, w_999]

theorem amax_apply (x : FVec Ideal S39424x2048 .f32) :
    amax x (ix2 R J) = top fun l => max (x (ix2 R (col J l))) (-x (ix2 R (col J l))) := by
  pointwise [amax]
  rw [w_bot]
  exact congrArg (fun f => Finset.fold max ⊥ f Finset.univ) (funext fun l => by
    rw [show (⟨J.val * 128 + l.val, by omega⟩ : Fin 2048) = col J l from Fin.ext (by show J.val * 128 + l.val = 128 * J.val + l.val; omega)]
    rfl)

theorem okElt_apply (g : FVec Ideal S39424x2048 .bf16) (v : FVec Ideal S39424x2048 .f32) (i : S39424x2048.Idx) (h : okElt g v i = 1#1) :
    max (g i) (-g i) < ⊤ ∧ (v i = 0 ∨ ((tiny : ℝ) : EReal) < v i) := by
  revert h
  pointwise [okElt]
  rw [every_apply, every_apply, every_apply, w_top, w_tiny]
  intro h
  obtain ⟨h1, h2⟩ := and_one h
  exact ⟨prop_one h1, (or_one h2).imp (fun h => zero_word (prop_one h)) prop_one⟩

theorem okBlock_apply (ms vs a : FVec Ideal S39424x16 .f32) (t : IVec S_ 32) (i : S39424x16.Idx) (h : okBlock ms vs a t i = 1#1) :
    max (ms i) (-ms i) < ⊤ ∧ max (vs i) (-vs i) < ⊤ ∧ (a i = 0 ∨ ((tiny : ℝ) : EReal) ≤ a i) ∧ (t ix0).toInt ≠ 0 := by
  revert h
  pointwise [okBlock]
  rw [each_apply, each_apply, each_apply, w_top, w_tiny]
  intro h
  obtain ⟨h1, h4⟩ := and_one h
  obtain ⟨h1, h3⟩ := and_one h1
  obtain ⟨h1, h2⟩ := and_one h1
  refine ⟨prop_one h1, prop_one h2, (or_one h3).imp (fun h => zero_word (prop_one h)) prop_one, ?_⟩
  have h5 : (t ix0 != 0#32) = true := bool_one h4
  exact fun e => bne_iff_ne.mp h5 (BitVec.eq_of_toInt_eq e)

theorem ok_apply (e : IVec S39424x2048 1) (b : IVec S39424x16 1) (h : ok e b (ix3 R J L) = 1#1) :
    e (ix2 R (col J L)) = 1#1 ∧ b (ix2 R J) = 1#1 := by
  revert h
  unfold ok
  rw [show ∀ (a b : IVec S39424x16x128 1) i, andi a b i = a i &&& b i from fun _ _ _ => rfl, split_apply]
  pointwise
  exact and_one

end At

end Cert.Pre_tame.Hand

end
-- ==== Proof.Equation.lean ====
/-
  The equations between the element functions of the kernel and of the reference, on real numbers: ten times the first moment
  and a thousand times the second moment, which the kernel carries, give the same update, the same scales and the same codes.
-/
module

public import proofs.«01_k».proof.Proof.Scalar

@[expose] public section

noncomputable section

namespace Cert.Scalar

open Idealize.ShloMosaic

theorem tiny_pos : (0 : ℝ) < tiny := by unfold tiny; positivity

/-! ## The largest of the lanes -/

/-- A lane no other exceeds holds the largest value. -/
theorem top_eq (f : Fin 128 → EReal) (l : Fin 128) (h : ∀ k, f k ≤ f l) : top f = f l := by
  have e : top f = Finset.univ.sup f := rfl
  rw [e]
  exact le_antisymm (Finset.sup_le fun k _ => h k) (Finset.le_sup (Finset.mem_univ l))
/-- Some lane exceeds or equals every other. -/
theorem exists_top (f : Fin 128 → ℝ) : ∃ l, ∀ k, f k ≤ f l := Finite.exists_max f

/-! ## Coercions -/

theorem max_real (a b : ℝ) : max (a : EReal) (b : EReal) = ((max a b : ℝ) : EReal) :=
  (EReal.coe_strictMono.monotone.map_max (a := a) (b := b)).symm
theorem min_real (a b : ℝ) : min (a : EReal) (b : EReal) = ((min a b : ℝ) : EReal) :=
  (EReal.coe_strictMono.monotone.map_min (a := a) (b := b)).symm
theorem abs_coe (r : ℝ) : max (r : EReal) (-(r : EReal)) = ((|r| : ℝ) : EReal) := by
  rw [← EReal.coe_neg, max_real]; rfl
theorem div_real {y : ℝ} (h : y ≠ 0) (x : ℝ) : Ideal.div (x : EReal) (y : EReal) = ((x / y : ℝ) : EReal) := by
  rw [Ideal.div_coe h, ← EReal.coe_mul, mul_one_div]
theorem sqrt_real {r : ℝ} (h : 0 ≤ r) : Ideal.sqrt (r : EReal) = ((Real.sqrt r : ℝ) : EReal) := by
  rw [Ideal.sqrt_coe, if_neg (not_lt.mpr h)]
theorem rsqrt_real {r : ℝ} (h : 0 < r) : Ideal.rsqrt (r : EReal) = (((Real.sqrt r)⁻¹ : ℝ) : EReal) := by
  rw [Ideal.rsqrt_coe, if_neg (not_lt.mpr h.le), if_neg h.ne']
theorem one_sub_real (r : ℝ) : (1 : EReal) - (r : EReal) = ((1 - r : ℝ) : EReal) := by
  rw [EReal.coe_sub, EReal.coe_one]

/-! ## The moments -/

section Moments
variable (c : BitVec 8) (s g : ℝ)

/-- The new moments as real numbers. -/
def mOf : ℝ := 9 / 10 * (c.toInt * s) + 1 / 10 * g
def vOf : ℝ := 999 / 1000 * (c.toInt * s * (c.toInt * s)) + 1 / 1000 * (g * g)

theorem vOf_nonneg : 0 ≤ vOf c s g := by
  unfold vOf
  have h1 := mul_self_nonneg ((c.toInt : ℝ) * s)
  have h2 := mul_self_nonneg g
  linarith

theorem rM_real : rM (code c) (s : EReal) (g : EReal) = ((mOf c s g : ℝ) : EReal) := by
  unfold rM code mOf
  push_cast
  rfl
theorem rV_real : rV (code c) (s : EReal) (g : EReal) = ((vOf c s g : ℝ) : EReal) := by
  unfold rV code vOf
  push_cast
  rfl
theorem kM_real : kM (code c) (s : EReal) (g : EReal) = ((10 * mOf c s g : ℝ) : EReal) := by
  unfold kM code
  rw [← EReal.coe_mul, ← EReal.coe_mul, ← EReal.coe_add]
  congr 1
  unfold mOf
  ring
theorem kV_real : kV (code c) (s : EReal) (g : EReal) = ((1000 * vOf c s g : ℝ) : EReal) := by
  unfold kV code
  rw [← EReal.coe_mul, ← EReal.coe_mul, ← EReal.coe_mul, ← EReal.coe_mul, ← EReal.coe_add]
  congr 1
  unfold vOf
  have h : Real.sqrt 999 * Real.sqrt 999 = 999 := Real.mul_self_sqrt (by norm_num)
  linear_combination (c.toInt : ℝ) ^ 2 * s ^ 2 * h

end Moments

/-! ## The root of the second moment -/

theorem kPos_real (v : ℝ) : kPos (v : EReal) = ((max v tiny : ℝ) : EReal) := by
  unfold kPos
  rw [max_real]

theorem kRoot_real {v : ℝ} (h : v = 0 ∨ tiny < v) : kRoot (v : EReal) = ((Real.sqrt v : ℝ) : EReal) := by
  unfold kRoot
  rw [kPos_real, rsqrt_real (lt_of_lt_of_le tiny_pos (le_max_right _ _)), ← EReal.coe_mul]
  congr 1
  rcases h with h | h
  · rw [h]; simp
  · rw [max_eq_left h.le, ← div_eq_mul_inv, Real.div_sqrt]

theorem sqrt_thousand (v : ℝ) : Real.sqrt (1000 * v) = Real.sqrt 1000 * Real.sqrt v := Real.sqrt_mul (by norm_num) v

/-! ## The scales -/

theorem kMScale_eq (a : ℝ) : kMScale ((10 * a : ℝ) : EReal) = rScale (a : EReal) := by
  unfold kMScale rScale
  by_cases h : a = 0
  · subst h; simp
  · rw [if_neg (by exact_mod_cast (mul_ne_zero (by norm_num) h : (10 * a : ℝ) ≠ 0)), if_neg (by exact_mod_cast h),
      div_real (by norm_num), ← EReal.coe_mul]
    congr 1
    ring

theorem kVScale_eq {b : ℝ} (h0 : 0 ≤ b) (h : 1000 * b = 0 ∨ tiny < 1000 * b) :
    kVScale (kPos ((1000 * b : ℝ) : EReal)) = rScale ((Real.sqrt b : ℝ) : EReal) := by
  unfold kVScale rScale
  rw [kPos_real]
  rcases h with h | h
  · have hb : b = 0 := by linarith
    subst hb
    rw [if_pos (by rw [EReal.coe_le_coe_iff]; simp [tiny_pos.le])]
    simp
  · have hb : 0 < b := by have := tiny_pos; linarith
    rw [max_eq_left h.le, if_neg (by rw [EReal.coe_le_coe_iff]; exact not_le.mpr h),
      if_neg (by exact_mod_cast (Real.sqrt_pos.mpr hb).ne'), sqrt_real (by linarith), div_real (by norm_num), ← EReal.coe_mul]
    congr 1
    rw [sqrt_thousand]
    have : Real.sqrt 1000 ≠ 0 := (Real.sqrt_pos.mpr (by norm_num)).ne'
    field_simp

/-! ## The codes -/

theorem kMCode_eq {x a : ℝ} (hx : |x| ≤ a) (h : 10 * a = 0 ∨ tiny ≤ 10 * a) :
    kMCode ((10 * x : ℝ) : EReal) ((10 * a : ℝ) : EReal) = rCode (x : EReal) (rScale (a : EReal)) := by
  unfold kMCode rCode rScale
  rw [max_real]
  rcases h with h | h
  · have ha : a = 0 := by linarith
    subst ha
    have hx0 : x = 0 := abs_eq_zero.mp (le_antisymm hx (abs_nonneg x))
    subst hx0
    rw [div_real (by simp [tiny_pos, tiny_pos.ne'])]
    rw [← EReal.coe_one, ← EReal.coe_zero, if_pos rfl, div_real one_ne_zero, ← EReal.coe_mul]
    simp
  · have ha : 0 < a := by have := tiny_pos; linarith
    rw [max_eq_left h, div_real (by positivity), if_neg (by exact_mod_cast ha.ne'), div_real (by norm_num),
      div_real (by positivity), ← EReal.coe_mul]
    congr 2
    field_simp

theorem kVCode_eq {v b : ℝ} (h0 : 0 ≤ v) (hv : v ≤ b) (h1 : 1000 * v = 0 ∨ tiny < 1000 * v) (h : 1000 * b = 0 ∨ tiny < 1000 * b) :
    kVCode ((1000 * v : ℝ) : EReal) (kPos ((1000 * b : ℝ) : EReal)) = rCode ((Real.sqrt v : ℝ) : EReal) (rScale ((Real.sqrt b : ℝ) : EReal)) := by
  unfold kVCode rCode rScale
  rw [kRoot_real h1, kPos_real, rsqrt_real (lt_of_lt_of_le tiny_pos (le_max_right _ _)), ← EReal.coe_mul, ← EReal.coe_mul]
  rcases h with h | h
  · have hb : b = 0 := by linarith
    subst hb
    have hv0 : v = 0 := le_antisymm hv h0
    subst hv0
    rw [Real.sqrt_zero, ← EReal.coe_one, ← EReal.coe_zero, if_pos rfl, div_real one_ne_zero]
    simp
  · have hb : 0 < b := by have := tiny_pos; linarith
    have hs : 0 < Real.sqrt b := Real.sqrt_pos.mpr hb
    rw [max_eq_left h.le, if_neg (by exact_mod_cast hs.ne'), div_real (by norm_num), div_real (by positivity)]
    congr 2
    rw [sqrt_thousand, sqrt_thousand]
    have : Real.sqrt 1000 ≠ 0 := (Real.sqrt_pos.mpr (by norm_num)).ne'
    field_simp

/-- A clamped rounding is an integer of absolute value at most 127. -/
theorem clampRound_int (x : EReal) : ∃ k : ℤ, -127 ≤ k ∧ k ≤ 127 ∧ clampRound x = ((k : ℝ) : EReal) := by
  unfold clampRound
  induction x using EReal.rec with
  | bot =>
    refine ⟨-127, le_refl _, by norm_num, ?_⟩
    rw [Ideal.liftRound_bot, max_eq_left bot_le, min_real]
    norm_num
  | top =>
    refine ⟨127, by norm_num, le_refl _, ?_⟩
    rw [Ideal.liftRound_top, max_eq_right le_top, min_eq_left le_top]
    norm_num
  | coe r =>
    refine ⟨min 127 (max (-127) (Ideal.roundHalfEven r)), by omega, by omega, ?_⟩
    rw [Ideal.liftRound_coe, max_real, min_real]
    push_cast
    rfl

theorem fptosi_int {w : Nat} {k : ℤ} (h1 : -((2 ^ (w - 1) : Nat) : ℤ) ≤ k) (h2 : k ≤ ((2 ^ (w - 1) : Nat) : ℤ) - 1) :
    Ideal.fptosi w ((k : ℝ) : EReal) = BitVec.ofInt w k := by
  unfold Ideal.fptosi
  rw [Ideal.toIntClamped_coe, Int.floor_intCast, Int.ceil_intCast, ite_self, min_eq_right h2, max_eq_right h1]

/-- Converting a code to eight bits directly, or through thirty-two bits, is the same. -/
theorem fptosi_code (x : EReal) : Ideal.fptosi 8 (clampRound x) = (Ideal.fptosi 32 (clampRound x)).setWidth 8 := by
  obtain ⟨k, h1, h2, e⟩ := clampRound_int x
  rw [e, fptosi_int (by norm_num; omega) (by norm_num; omega), fptosi_int (by norm_num; omega) (by norm_num; omega)]
  have : ∀ j : Fin 255, BitVec.ofInt 8 ((j.val : ℤ) - 127) = (BitVec.ofInt 32 ((j.val : ℤ) - 127)).setWidth 8 := by decide +kernel
  have := this ⟨(k + 127).toNat, by omega⟩
  rwa [show (((k + 127).toNat : ℕ) : ℤ) - 127 = k by omega] at this

/-! ## The update -/

theorem exp_log {β : ℝ} (h : 0 < β) (t : ℝ) :
    Ideal.exp ((t : EReal) * ((Real.log β : ℝ) : EReal)) = Ideal.pow (β : EReal) (t : EReal) := by
  rw [← EReal.coe_mul, Ideal.exp_coe, Ideal.pow_coe_coe]
  congr 1
  show _ = β ^ t
  rw [Real.rpow_def_of_pos h, mul_comm]

theorem bias_pos {β t : ℝ} (h0 : 0 < β) (h1 : β < 1) (ht : 0 < t) : 0 < 1 - Real.rpow β t := by
  have : β ^ t < 1 := Real.rpow_lt_one h0.le h1 ht
  exact sub_pos.mpr this

/-- The weight decay spread over a sum whose first term is real. -/
theorem spread (x : ℝ) (p : EReal) : ((-(1 / 1000) * x : ℝ) : EReal) - ((1 / 100000 : ℝ) : EReal) * p
    = (-((1 / 1000 : ℝ) : EReal)) * ((x : EReal) + ((1 / 100 : ℝ) : EReal) * p) := by
  rw [← EReal.coe_neg]
  induction p using EReal.rec with
  | bot =>
    rw [EReal.coe_mul_bot_of_pos (by norm_num), EReal.coe_mul_bot_of_pos (by norm_num), EReal.add_bot,
      EReal.coe_mul_bot_of_neg (by norm_num), EReal.coe_sub_bot]
  | top =>
    rw [EReal.coe_mul_top_of_pos (by norm_num), EReal.coe_mul_top_of_pos (by norm_num), EReal.coe_add_top,
      EReal.coe_mul_top_of_neg (by norm_num), EReal.sub_top]
  | coe r =>
    rw [← EReal.coe_mul, ← EReal.coe_mul, ← EReal.coe_sub, ← EReal.coe_add, ← EReal.coe_mul]
    congr 1
    ring

/-- At a positive step both bias corrections are positive. -/
theorem kDelta_pos {t x v : ℝ} (p : EReal) (ht : 0 < t) (h0 : 0 ≤ v) (hv : 1000 * v = 0 ∨ tiny < 1000 * v) :
    kDelta (t : EReal) ((10 * x : ℝ) : EReal) ((1000 * v : ℝ) : EReal) p = rDelta (t : EReal) (x : EReal) (v : EReal) p := by
  unfold kDelta rDelta kMul kAdd kUnit
  rw [exp_log (by norm_num), exp_log (by norm_num), Ideal.pow_coe_coe, Ideal.pow_coe_coe, one_sub_real, one_sub_real, kRoot_real hv]
  have hB1 := bias_pos (β := 9 / 10) (by norm_num) (by norm_num) ht
  have hB2 := bias_pos (β := 999 / 1000) (by norm_num) (by norm_num) ht
  generalize 1 - Real.rpow (9 / 10) t = B1 at *
  generalize 1 - Real.rpow (999 / 1000) t = B2 at *
  rw [div_real hB2.ne', div_real hB2.ne', sqrt_real (by positivity), sqrt_real (by positivity), div_real hB1.ne']
  simp only [← EReal.coe_mul, ← EReal.coe_add]
  have hs : Real.sqrt (1000 * v) * (B1 * -10000 * Real.sqrt (1 / 1000 / B2)) + B1 * -10000 * (1 / 10 ^ 8)
      = -10000 * B1 * (Real.sqrt (v / B2) + 1 / 10 ^ 8) := by
    have : Real.sqrt (1000 * v) * Real.sqrt (1 / 1000 / B2) = Real.sqrt (v / B2) := by
      rw [← Real.sqrt_mul (by positivity)]
      congr 1
      field_simp
    linear_combination (B1 * -10000) * this
  have hp : 0 < Real.sqrt (v / B2) + 1 / 10 ^ 8 := by positivity
  rw [hs, div_real (by have := mul_pos hB1 hp; nlinarith), div_real hp.ne', ← spread]
  congr 2
  generalize Real.sqrt (v / B2) + 1 / 10 ^ 8 = D at *
  field_simp
  ring

theorem bias_neg {β t : ℝ} (h0 : 0 < β) (h1 : β < 1) (ht : t < 0) : 1 - Real.rpow β t < 0 := by
  have : 1 < β ^ t := Real.one_lt_rpow_of_pos_of_lt_one_of_neg h0 h1 ht
  exact sub_neg.mpr this

theorem sqrt_neg {r : ℝ} (h : r < 0) : Ideal.sqrt (r : EReal) = ⊥ := by
  rw [Ideal.sqrt_coe, if_pos h]
theorem div_bot (x : EReal) : Ideal.div x ⊥ = 0 := by
  rw [Ideal.div, if_neg EReal.bot_ne_zero, EReal.inv_bot, mul_zero]

/-- At a negative step both bias corrections are negative; the root of a negative number is the bottom in both programs. -/
theorem kDelta_neg {t x v : ℝ} (p : EReal) (ht : t < 0) (h0 : 0 ≤ v) (hv : 1000 * v = 0 ∨ tiny < 1000 * v) :
    kDelta (t : EReal) ((10 * x : ℝ) : EReal) ((1000 * v : ℝ) : EReal) p = rDelta (t : EReal) (x : EReal) (v : EReal) p := by
  unfold kDelta rDelta kMul kAdd kUnit
  rw [exp_log (by norm_num), exp_log (by norm_num), Ideal.pow_coe_coe, Ideal.pow_coe_coe, one_sub_real, one_sub_real, kRoot_real hv]
  have hB1 := bias_neg (β := 9 / 10) (by norm_num) (by norm_num) ht
  have hB2 := bias_neg (β := 999 / 1000) (by norm_num) (by norm_num) ht
  generalize 1 - Real.rpow (9 / 10) t = B1 at *
  generalize 1 - Real.rpow (999 / 1000) t = B2 at *
  rw [div_real hB2.ne, div_real hB2.ne, div_real hB1.ne, sqrt_neg (div_neg_of_pos_of_neg (by norm_num) hB2)]
  rcases h0.eq_or_lt with h | h
  · rw [← h, mul_zero, zero_div, Real.sqrt_zero, sqrt_real le_rfl, Real.sqrt_zero, EReal.coe_zero, zero_mul, zero_add, zero_add]
    simp only [← EReal.coe_mul]
    rw [div_real (by nlinarith), div_real (by norm_num), ← spread]
    congr 2
    have := hB1.ne
    field_simp
    ring
  · rw [sqrt_neg (div_neg_of_pos_of_neg h hB2), ← EReal.coe_mul, EReal.coe_mul_bot_of_pos (by nlinarith),
      EReal.coe_mul_bot_of_pos (Real.sqrt_pos.mpr (by linarith)), EReal.bot_add, EReal.bot_add, div_bot, div_bot]
    have := spread 0 p
    rwa [mul_zero, EReal.coe_zero] at this

theorem kDelta_eq {t x v : ℝ} (p : EReal) (ht : t ≠ 0) (h0 : 0 ≤ v) (hv : 1000 * v = 0 ∨ tiny < 1000 * v) :
    kDelta (t : EReal) ((10 * x : ℝ) : EReal) ((1000 * v : ℝ) : EReal) p = rDelta (t : EReal) (x : EReal) (v : EReal) p :=
  (lt_or_gt_of_ne ht).elim (fun h => kDelta_neg p h h0 hv) (fun h => kDelta_pos p h h0 hv)

end Cert.Scalar

end
-- ==== Proof.Rows.lean ====
/-
  A block of a row: where the gradient and the scales are real, the two moments of the kernel and of the reference and their
  largest values are the same real numbers, up to the kernel's factors of ten and of a thousand.
-/
module

public import proofs.«01_k».proof.Proof.Equation

@[expose] public section

noncomputable section

namespace Cert.Scalar

open Idealize.ShloMosaic

theorem real_of_abs {x : EReal} (h : max x (-x) < ⊤) : ∃ r : ℝ, x = (r : EReal) := by
  induction x using EReal.rec with
  | bot => simp at h
  | top => simp at h
  | coe r => exact ⟨r, rfl⟩

variable (g : Fin 2048 → EReal) (c : Fin 2048 → BitVec 8) (s : Fin 16 → EReal) (J : Fin 16)

theorem row_m (hg : ∀ l, max (g (col J l)) (-g (col J l)) < ⊤) (hs : max (s J) (-s J) < ⊤)
    (ha : (top fun l => max (((9 : ℝ) : EReal) * (code (c (col J l)) * s J) + g (col J l)) (-(((9 : ℝ) : EReal) * (code (c (col J l)) * s J) + g (col J l)))) = 0
      ∨ ((tiny : ℝ) : EReal) ≤ top fun l => max (((9 : ℝ) : EReal) * (code (c (col J l)) * s J) + g (col J l)) (-(((9 : ℝ) : EReal) * (code (c (col J l)) * s J) + g (col J l)))) :
    ∃ (x : Fin 128 → ℝ) (a : ℝ), (∀ l, rowKM g c s J l = ((10 * x l : ℝ) : EReal)) ∧ (∀ l, rowRM g c s J l = ((x l : ℝ) : EReal))
      ∧ topKM g c s J = ((10 * a : ℝ) : EReal) ∧ topRM g c s J = ((a : ℝ) : EReal) ∧ (∀ l, |x l| ≤ a) ∧ (10 * a = 0 ∨ tiny ≤ 10 * a) := by
  obtain ⟨σ, hσ⟩ := real_of_abs hs
  choose γ hγ using fun l => real_of_abs (hg l)
  obtain ⟨l₀, hl₀⟩ := exists_top fun l => |mOf (c (col J l)) σ (γ l)|
  have hK : ∀ l, rowKM g c s J l = ((10 * mOf (c (col J l)) σ (γ l) : ℝ) : EReal) := fun l => by
    unfold rowKM; rw [hσ, hγ, kM_real]
  have hR : ∀ l, rowRM g c s J l = ((mOf (c (col J l)) σ (γ l) : ℝ) : EReal) := fun l => by
    unfold rowRM; rw [hσ, hγ, rM_real]
  have hX : ∀ l, ((9 : ℝ) : EReal) * (code (c (col J l)) * s J) + g (col J l) = ((10 * mOf (c (col J l)) σ (γ l) : ℝ) : EReal) := fun l => by
    rw [hσ, hγ]
    unfold code
    rw [← EReal.coe_mul, ← EReal.coe_mul, ← EReal.coe_add]
    congr 1
    unfold mOf
    ring
  have h10 : ∀ l, |10 * mOf (c (col J l)) σ (γ l)| = 10 * |mOf (c (col J l)) σ (γ l)| := fun l => by
    rw [abs_mul]; norm_num
  have hT : (top fun l => max (((10 * mOf (c (col J l)) σ (γ l) : ℝ) : EReal)) (-((10 * mOf (c (col J l)) σ (γ l) : ℝ) : EReal)))
      = ((10 * |mOf (c (col J l₀)) σ (γ l₀)| : ℝ) : EReal) := by
    rw [top_eq _ l₀ fun k => by
      rw [abs_coe, abs_coe, EReal.coe_le_coe_iff, h10, h10]
      exact mul_le_mul_of_nonneg_left (hl₀ k) (by norm_num)]
    rw [abs_coe, h10]
  refine ⟨fun l => mOf (c (col J l)) σ (γ l), |mOf (c (col J l₀)) σ (γ l₀)|, hK, hR, ?_, ?_, hl₀, ?_⟩
  · unfold topKM
    simp only [hK]
    exact hT
  · unfold topRM
    simp only [hR]
    rw [top_eq _ l₀ fun k => by rw [abs_coe, abs_coe, EReal.coe_le_coe_iff]; exact hl₀ k]
    exact abs_coe _
  · simp only [hX] at ha
    rw [hT] at ha
    exact ha.imp (fun h => by exact_mod_cast h) (fun h => by exact_mod_cast h)

theorem row_v (hg : ∀ l, max (g (col J l)) (-g (col J l)) < ⊤) (hs : max (s J) (-s J) < ⊤)
    (hv : ∀ l, ((999 : ℝ) : EReal) * (code (c (col J l)) * s J * (code (c (col J l)) * s J)) + g (col J l) * g (col J l) = 0
      ∨ ((tiny : ℝ) : EReal) < ((999 : ℝ) : EReal) * (code (c (col J l)) * s J * (code (c (col J l)) * s J)) + g (col J l) * g (col J l)) :
    ∃ (v : Fin 128 → ℝ) (b : ℝ), (∀ l, rowKV g c s J l = ((1000 * v l : ℝ) : EReal)) ∧ (∀ l, rowRV g c s J l = ((v l : ℝ) : EReal))
      ∧ topKV g c s J = kPos ((1000 * b : ℝ) : EReal) ∧ topRV g c s J = ((Real.sqrt b : ℝ) : EReal) ∧ (∀ l, 0 ≤ v l) ∧ (∀ l, v l ≤ b)
      ∧ (∀ l, 1000 * v l = 0 ∨ tiny < 1000 * v l) ∧ (1000 * b = 0 ∨ tiny < 1000 * b) ∧ 0 ≤ b := by
  obtain ⟨σ, hσ⟩ := real_of_abs hs
  choose γ hγ using fun l => real_of_abs (hg l)
  obtain ⟨l₀, hl₀⟩ := exists_top fun l => vOf (c (col J l)) σ (γ l)
  have h0 : ∀ l, 0 ≤ vOf (c (col J l)) σ (γ l) := fun l => vOf_nonneg _ _ _
  have hK : ∀ l, rowKV g c s J l = ((1000 * vOf (c (col J l)) σ (γ l) : ℝ) : EReal) := fun l => by
    unfold rowKV; rw [hσ, hγ, kV_real]
  have hR : ∀ l, rowRV g c s J l = ((vOf (c (col J l)) σ (γ l) : ℝ) : EReal) := fun l => by
    unfold rowRV; rw [hσ, hγ, rV_real]
  have hX : ∀ l, ((999 : ℝ) : EReal) * (code (c (col J l)) * s J * (code (c (col J l)) * s J)) + g (col J l) * g (col J l)
      = ((1000 * vOf (c (col J l)) σ (γ l) : ℝ) : EReal) := fun l => by
    rw [hσ, hγ]
    unfold code
    rw [← EReal.coe_mul, ← EReal.coe_mul, ← EReal.coe_mul, ← EReal.coe_mul, ← EReal.coe_add]
    congr 1
    unfold vOf
    ring
  have hV : ∀ l, 1000 * vOf (c (col J l)) σ (γ l) = 0 ∨ tiny < 1000 * vOf (c (col J l)) σ (γ l) := fun l => by
    have := hv l
    rw [hX] at this
    exact this.imp (fun h => by exact_mod_cast h) (fun h => by exact_mod_cast h)
  refine ⟨fun l => vOf (c (col J l)) σ (γ l), vOf (c (col J l₀)) σ (γ l₀), hK, hR, ?_, ?_, h0, hl₀, hV, hV l₀, h0 l₀⟩
  · unfold topKV
    simp only [hK]
    exact top_eq (fun l => kPos ((1000 * vOf (c (col J l)) σ (γ l) : ℝ) : EReal)) l₀ fun k => by
      rw [kPos_real, kPos_real, EReal.coe_le_coe_iff]
      exact max_le_max_right _ (mul_le_mul_of_nonneg_left (hl₀ k) (by norm_num))
  · unfold topRV
    simp only [hR, fun l => sqrt_real (h0 l), abs_coe, abs_of_nonneg (Real.sqrt_nonneg _)]
    exact top_eq (fun l => ((Real.sqrt (vOf (c (col J l)) σ (γ l)) : ℝ) : EReal)) l₀ fun k => by
      rw [EReal.coe_le_coe_iff]
      exact Real.sqrt_le_sqrt (hl₀ k)

end Cert.Scalar

end
-- ==== Proof.Algebraic.lean ====
/-
  Under the precondition the five arrays of the kernel are the five arrays of the reference, and with the two runs the claim
  that the two programs return the same arrays follows.
-/
module

public import proofs.«01_k».proof.Defs
public import proofs.«01_k».proof.Proof.Results
public import proofs.«01_k».proof.Proof.ReferenceValue
public import proofs.«01_k».proof.Proof.Tame
public import proofs.«01_k».proof.Proof.Rows
public import Idealize.ShloMosaic.Lib.Claim

@[expose] public section

noncomputable section

namespace Cert.Proof

open Cert.Scalar Cert.KernelIdeal.Exact
open Idealize.ShloMosaic Idealize.ShloMosaic.TcCoe Idealize.SL.Sem

section Arrays
variable {m : (ℓ : Loc Cert.KernelIdeal.nD Cert.KernelIdeal.τ Cert.KernelIdeal.sig) → Buf (Elt Ideal) ℓ}
variable (c : Dev Cert.KernelIdeal.nD)

/-- What the precondition asks, on one device. -/
def TameAt (m : (ℓ : Loc Cert.KernelIdeal.nD Cert.KernelIdeal.τ Cert.KernelIdeal.sig) → Buf (Elt Ideal) ℓ) (c : Dev Cert.KernelIdeal.nD) : Prop :=
  Cert.Pre_tame.fn (F := Ideal) (P m c) (G m c) (MC m c) (MS m c) (VC m c) (VS m c) (T m c) = fun _ => 1#1

variable {c} (h : TameAt m c)
include h

section Unpack
variable (R : Fin 39424) (J : Fin 16) (L : Fin 128)

theorem both : Cert.Pre_tame.Hand.okElt (G m c) (Cert.Pre_tame.Hand.thouV (G m c) (VC m c) (VS m c)) (ix2 R (col J L)) = 1#1
    ∧ Cert.Pre_tame.Hand.okBlock (MS m c) (VS m c) (Cert.Pre_tame.Hand.amax (Cert.Pre_tame.Hand.tenM (G m c) (MC m c) (MS m c))) (T m c) (ix2 R J) = 1#1 := by
  have h1 := h
  unfold TameAt at h1
  rw [Cert.Pre_tame.Hand.fn_eq] at h1
  exact Cert.Pre_tame.Hand.ok_apply R J L _ _ (congrFun h1 (ix3 R J L))

theorem tame_elt : max (gOf m c R (col J L)) (-gOf m c R (col J L)) < ⊤
    ∧ (((999 : ℝ) : EReal) * (code (vcOf m c R (col J L)) * vsOf m c R J * (code (vcOf m c R (col J L)) * vsOf m c R J)) + gOf m c R (col J L) * gOf m c R (col J L) = 0
      ∨ ((tiny : ℝ) : EReal) < ((999 : ℝ) : EReal) * (code (vcOf m c R (col J L)) * vsOf m c R J * (code (vcOf m c R (col J L)) * vsOf m c R J)) + gOf m c R (col J L) * gOf m c R (col J L)) := by
  have := Cert.Pre_tame.Hand.okElt_apply _ _ _ (both h R J L).1
  rw [Cert.Pre_tame.Hand.thouV_apply] at this
  exact this

theorem tame_block : max (msOf m c R J) (-msOf m c R J) < ⊤ ∧ max (vsOf m c R J) (-vsOf m c R J) < ⊤
    ∧ (Cert.Pre_tame.Hand.amax (Cert.Pre_tame.Hand.tenM (G m c) (MC m c) (MS m c)) (ix2 R J) = 0
      ∨ ((tiny : ℝ) : EReal) ≤ Cert.Pre_tame.Hand.amax (Cert.Pre_tame.Hand.tenM (G m c) (MC m c) (MS m c)) (ix2 R J))
    ∧ (T m c ix0).toInt ≠ 0 :=
  Cert.Pre_tame.Hand.okBlock_apply _ _ _ _ _ (both h R J 0).2

theorem step_ne : ∃ t : ℝ, t ≠ 0 ∧ step (T m c ix0) = (t : EReal) :=
  ⟨((T m c ix0).toInt : ℝ), by exact_mod_cast (tame_block h 0 0).2.2.2, rfl⟩

theorem block_m : ∃ (x : Fin 128 → ℝ) (a : ℝ), (∀ l, rowKM (gOf m c R) (mcOf m c R) (msOf m c R) J l = ((10 * x l : ℝ) : EReal))
    ∧ (∀ l, rowRM (gOf m c R) (mcOf m c R) (msOf m c R) J l = ((x l : ℝ) : EReal))
    ∧ topKM (gOf m c R) (mcOf m c R) (msOf m c R) J = ((10 * a : ℝ) : EReal)
    ∧ topRM (gOf m c R) (mcOf m c R) (msOf m c R) J = ((a : ℝ) : EReal) ∧ (∀ l, |x l| ≤ a) ∧ (10 * a = 0 ∨ tiny ≤ 10 * a) :=
  row_m (gOf m c R) (mcOf m c R) (msOf m c R) J (fun l => (tame_elt h R J l).1) (tame_block h R J).1 (by
  have := (tame_block h R J).2.2.1
  rw [Cert.Pre_tame.Hand.amax_apply] at this
  simp only [Cert.Pre_tame.Hand.tenM_apply] at this
  exact this)

theorem block_v : ∃ (v : Fin 128 → ℝ) (b : ℝ), (∀ l, rowKV (gOf m c R) (vcOf m c R) (vsOf m c R) J l = ((1000 * v l : ℝ) : EReal))
    ∧ (∀ l, rowRV (gOf m c R) (vcOf m c R) (vsOf m c R) J l = ((v l : ℝ) : EReal))
    ∧ topKV (gOf m c R) (vcOf m c R) (vsOf m c R) J = kPos ((1000 * b : ℝ) : EReal)
    ∧ topRV (gOf m c R) (vcOf m c R) (vsOf m c R) J = ((Real.sqrt b : ℝ) : EReal) ∧ (∀ l, 0 ≤ v l) ∧ (∀ l, v l ≤ b)
    ∧ (∀ l, 1000 * v l = 0 ∨ tiny < 1000 * v l) ∧ (1000 * b = 0 ∨ tiny < 1000 * b) ∧ 0 ≤ b :=
  row_v (gOf m c R) (vcOf m c R) (vsOf m c R) J (fun l => (tame_elt h R J l).1) (tame_block h R J).2.1
  (fun l => (tame_elt h R J l).2)

end Unpack

omit h in
open Cert.ReferenceIdeal.Hand in
theorem amax_m (R : Fin 39424) (J : Fin 16) : amax (newM (G m c) (MC m c) (MS m c)) (ix2 R J) = topRM (gOf m c R) (mcOf m c R) (msOf m c R) J := by
  rw [amax_apply]
  simp only [newM_apply]
  rfl

omit h in
open Cert.ReferenceIdeal.Hand in
theorem sqrt_v (R : Fin 39424) (J : Fin 16) (L : Fin 128) : Host.sqrt (newV (G m c) (VC m c) (VS m c)) (ix2 R (col J L))
    = Ideal.sqrt (rowRV (gOf m c R) (vcOf m c R) (vsOf m c R) J L) :=
  congrArg Ideal.sqrt (newV_apply _ _ _ R J L)

omit h in
open Cert.ReferenceIdeal.Hand in
theorem amax_v (R : Fin 39424) (J : Fin 16) : amax (Host.sqrt (newV (G m c) (VC m c) (VS m c))) (ix2 R J) = topRV (gOf m c R) (vcOf m c R) (vsOf m c R) J := by
  rw [amax_apply]
  simp only [sqrt_v]
  rfl

omit h in
/-- Arrays of rows that agree in every block and lane are equal. -/
theorem ext_row {α : Type} (f f' : Cert.KernelIdeal.S39424x2048.Idx → α) (e : ∀ R J L, f (ix2 R (col J L)) = f' (ix2 R (col J L))) : f = f' := by
  have e' : ∀ (R : Fin 39424) (x : Fin 2048), f (ix2 R x) = f' (ix2 R x) := fun R x => by
    have := e R (blockOf x) (laneOf x)
    rwa [col_blockOf] at this
  funext y
  rw [eq_ix2 y]
  exact e' _ _

omit h in
/-- Arrays of blocks that agree in every row and block are equal. -/
theorem ext_block {α : Type} (f f' : Cert.KernelIdeal.S39424x16.Idx → α) (e : ∀ (R : Fin 39424) (J : Fin 16), f (ix2 R J) = f' (ix2 R J)) : f = f' := by
  funext y
  rw [eq_ix2 y]
  exact e _ _

omit h in
theorem at_row {α : Type} (f : Fin 39424 → Fin 16 → Fin 128 → α) (R : Fin 39424) (J : Fin 16) (L : Fin 128) :
    f R (blockOf (col J L)) (laneOf (col J L)) = f R J L := by
  have e1 : blockOf (col J L) = J := Fin.ext (by show (128 * J.val + L.val) / 128 = J.val; omega)
  have e2 : laneOf (col J L) = L := Fin.ext (by show (128 * J.val + L.val) % 128 = L.val; omega)
  rw [e1, e2]

open Cert.ReferenceIdeal.Hand in
theorem delta_eq : arrDelta m c = delta (P m c) (newM (G m c) (MC m c) (MS m c)) (newV (G m c) (VC m c) (VS m c)) (T m c) :=
  ext_row _ _ fun R J L => by
    rw [delta_apply, newM_apply, newV_apply]
    refine (at_row (valDelta m c) R J L).trans ?_
    obtain ⟨t, ht, et⟩ := step_ne h
    obtain ⟨x, a, hK, hR, -, -, -, -⟩ := block_m h R J
    obtain ⟨v, b, hKV, hRV, -, -, h0, -, h1, -, -⟩ := block_v h R J
    unfold valDelta
    rw [et, hK, hKV, kDelta_eq _ ht (h0 L) (h1 L), ← hR, ← hRV]

open Cert.ReferenceIdeal.Hand in
theorem mCodes_eq : arrMCodes m c = codesOf (newM (G m c) (MC m c) (MS m c)) :=
  ext_row _ _ fun R J L => by
    rw [codesOf_apply, newM_apply, amax_m]
    refine (at_row (valMCodes m c) R J L).trans ?_
    obtain ⟨x, a, hK, hR, hA, hRA, hx, ha⟩ := block_m h R J
    unfold valMCodes
    rw [hK, hA, kMCode_eq (hx L) ha, ← hR, ← hRA]
    exact fptosi_code _

open Cert.ReferenceIdeal.Hand in
theorem vCodes_eq : arrVCodes m c = codesOf (Host.sqrt (newV (G m c) (VC m c) (VS m c))) :=
  ext_row _ _ fun R J L => by
    rw [codesOf_apply, sqrt_v, amax_v]
    refine (at_row (valVCodes m c) R J L).trans ?_
    obtain ⟨v, b, hK, hR, hB, hRB, h0, hv, h1, hb, hb0⟩ := block_v h R J
    unfold valVCodes
    rw [hK, hB, kVCode_eq (h0 L) (hv L) (h1 L) hb, ← sqrt_real (h0 L), ← hR, ← hRB]
    exact fptosi_code _

open Cert.ReferenceIdeal.Hand in
theorem mScale_eq : transpose Cert.KernelIdeal.S39424x16 [1, 0] (arrMScale m c) Cert.KernelIdeal.Gen.transposes_S16x39424_S39424x16_1_0
    = scaleOf (newM (G m c) (MC m c) (MS m c)) :=
  ext_block _ _ fun R J => by
    rw [scaleOf_apply, amax_m]
    refine Eq.trans (b := valMScale m c R J) (by pointwise; rfl) ?_
    obtain ⟨x, a, -, -, hA, hRA, -, -⟩ := block_m h R J
    unfold valMScale
    rw [hA, kMScale_eq, ← hRA]

open Cert.ReferenceIdeal.Hand in
theorem vScale_eq : transpose Cert.KernelIdeal.S39424x16 [1, 0] (arrVScale m c) Cert.KernelIdeal.Gen.transposes_S16x39424_S39424x16_1_0
    = scaleOf (Host.sqrt (newV (G m c) (VC m c) (VS m c))) :=
  ext_block _ _ fun R J => by
    rw [scaleOf_apply, amax_v]
    refine Eq.trans (b := valVScale m c R J) (by pointwise; rfl) ?_
    obtain ⟨v, b, -, -, hB, hRB, -, -, -, hb, hb0⟩ := block_v h R J
    unfold valVScale
    rw [hB, kVScale_eq hb0 hb, ← hRB]

end Arrays

/-- The two programs, from memories that agree on the arguments and satisfy the precondition, end with the same five arrays. -/
theorem algebraic : Cert.algebraic_KernelIdeal_ReferenceIdeal_pre_tame := by
  intro m g m' g' hpre hagree
  refine ⟨fun c => arrDelta m c, fun c => arrMCodes m c,
    fun c => transpose Cert.KernelIdeal.S39424x16 [1, 0] (arrMScale m c) Cert.KernelIdeal.Gen.transposes_S16x39424_S39424x16_1_0,
    fun c => arrVCodes m c,
    fun c => transpose Cert.KernelIdeal.S39424x16 [1, 0] (arrVScale m c) Cert.KernelIdeal.Gen.transposes_S16x39424_S39424x16_1_0,
    Cert.KernelIdeal.Exact.run_results m g, ?_⟩
  refine (θ_run Cert.ReferenceIdeal.defs _ _).mono (fun r hr c => ?_) (Cert.ReferenceIdeal.Hand.run_results m' g')
  obtain ⟨e0, e1, e2, e3, e4, ea⟩ := hr c
  obtain ⟨a0, a1, a2, a3, a4, a5, a6⟩ := hagree c
  have hM : Cert.ReferenceIdeal.Hand.nM m' c = Cert.ReferenceIdeal.Hand.newM (G m c) (MC m c) (MS m c) := by
    unfold Cert.ReferenceIdeal.Hand.nM
    rw [a1, a2, a3]
  have hV : Cert.ReferenceIdeal.Hand.nV m' c = Cert.ReferenceIdeal.Hand.newV (G m c) (VC m c) (VS m c) := by
    unfold Cert.ReferenceIdeal.Hand.nV
    rw [a1, a4, a5]
  rw [hM, hV, a0, a6] at e0
  rw [hM] at e1 e2
  rw [hV] at e3 e4
  exact ⟨e0.trans (delta_eq (hpre c)).symm, e1.trans (mCodes_eq (hpre c)).symm, e2.trans (mScale_eq (hpre c)).symm,
    e3.trans (vCodes_eq (hpre c)).symm, e4.trans (vScale_eq (hpre c)).symm, ea⟩

end Cert.Proof

end
-- ==== Proof.lean ====
/-
  The proof of `Cert.Claim`: the frames of the two kernel programs and of the reference, the ledger of the named constants and
  the equality of the kernel's and the reference's results, assembled behind the witnesses of the programs' stated facts.
-/
module

public import proofs.«01_k».proof.Defs
public import proofs.«01_k».proof.Proof.KernelFrame
public import proofs.«01_k».proof.Proof.KernelIdealFrame
public import proofs.«01_k».proof.Proof.ReferenceFrame
public import proofs.«01_k».proof.Proof.Preserves
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_tame.Hand.facts,
  fun m ρ _ => Cert.Kernel.Hand.quiescent m ρ, fun m ρ _ => Cert.KernelIdeal.Hand.quiescent m ρ,
  fun m ρ _ => Cert.KernelIdeal.Hand.quiescent m ρ, fun m ρ _ => Cert.ReferenceIdeal.Hand.quiescent m ρ,
  fun m ρ _ => Cert.ReferenceIdeal.Hand.quiescent m ρ, preserves, algebraic⟩

end Cert.Proof

end
